-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x256x4096 : Shape := ⟨3, ![2, 256, 4096]⟩
abbrev S2x4096x512 : Shape := ⟨3, ![2, 4096, 512]⟩
abbrev S3x1024x512 : Shape := ⟨3, ![3, 1024, 512]⟩
abbrev S4x1024x512 : Shape := ⟨3, ![4, 1024, 512]⟩
abbrev S2 : Shape := ⟨1, ![2]⟩
abbrev S12 : Shape := ⟨1, ![12]⟩
abbrev S4 : Shape := ⟨1, ![4]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x4096x512 : Shape := ⟨3, ![1, 4096, 512]⟩
abbrev S256x512 : Shape := ⟨2, ![256, 512]⟩
abbrev S1x256x512 : Shape := ⟨3, ![1, 256, 512]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S2x256x4096, .f32⟩
  | .local _ .vmem, ⟨1, _⟩ => ⟨S1024x4096, .bf16⟩
  | .local _ .vmem, ⟨2, _⟩ => ⟨S2x4096x512, .f32⟩
  | .local _ .vmem, ⟨3, _⟩ => ⟨S2x4096x512, .bf16⟩
  | .local _ .vmem, ⟨4, _⟩ => ⟨S3x1024x512, .bf16⟩
  | .local _ .vmem, ⟨5, _⟩ => ⟨S3x1024x512, .bf16⟩
  | .local _ .vmem, ⟨6, _⟩ => ⟨S4x1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_off1 (d0 : Dev nD) (c1_i32_6 : BitVec 32) : Fin 2 → Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v15 : BitVec 32 := Scalar.muli c1_i32_6 v14
  let v16 : BitVec 32 := Scalar.addi v2 v15
  let c4_i32_7 : BitVec 32 := 4#32
  let c0_i32_8 : BitVec 32 := 0#32
  let v17 : BitVec 1 := Scalar.cmpi .eq c4_i32_7 c0_i32_8
  let c1_i32_9 : BitVec 32 := 1#32
  let v18 : BitVec 32 := Scalar.select v17 c1_i32_9 c4_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c512_i32 : BitVec 32 := 512#32
  let v207 : BitVec 32 := Scalar.muli v26 c512_i32
  ![0, v207.toNat]
def k0_dev1 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_150 : BitVec 32 := 1#32
  let v232 : BitVec 32 := Scalar.addi v2 c1_i32_150
  let c4_i32_151 : BitVec 32 := 4#32
  let c0_i32_152 : BitVec 32 := 0#32
  let v233 : BitVec 1 := Scalar.cmpi .eq c4_i32_151 c0_i32_152
  let c1_i32_153 : BitVec 32 := 1#32
  let v234 : BitVec 32 := Scalar.select v233 c1_i32_153 c4_i32_151
  let v235 : BitVec 32 := Scalar.remsi v232 v234
  let c0_i32_155 : BitVec 32 := 0#32
  let v237 : BitVec 1 := Scalar.cmpi .slt v235 c0_i32_155
  let c0_i32_156 : BitVec 32 := 0#32
  let v238 : BitVec 1 := Scalar.cmpi .slt v234 c0_i32_156
  let v239 : BitVec 1 := Scalar.xori v237 v238
  let c0_i32_154 : BitVec 32 := 0#32
  let v236 : BitVec 1 := Scalar.cmpi .ne v235 c0_i32_154
  let v240 : BitVec 1 := Scalar.andi v239 v236
  let v241 : BitVec 32 := Scalar.addi v235 v234
  let v242 : BitVec 32 := Scalar.select v240 v241 v235
  let c1_i32_158 : BitVec 32 := 1#32
  let v243 : BitVec 32 := Scalar.muli v242 c1_i32_158
  let v244 : BitVec 32 := Scalar.addi c0_i32_159 v243
  v244.toNat
def k0_dev2 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_160 : BitVec 32 := 2#32
  let v245 : BitVec 32 := Scalar.addi v2 c2_i32_160
  let c4_i32_161 : BitVec 32 := 4#32
  let c0_i32_162 : BitVec 32 := 0#32
  let v246 : BitVec 1 := Scalar.cmpi .eq c4_i32_161 c0_i32_162
  let c1_i32_163 : BitVec 32 := 1#32
  let v247 : BitVec 32 := Scalar.select v246 c1_i32_163 c4_i32_161
  let v248 : BitVec 32 := Scalar.remsi v245 v247
  let c0_i32_165 : BitVec 32 := 0#32
  let v250 : BitVec 1 := Scalar.cmpi .slt v248 c0_i32_165
  let c0_i32_166 : BitVec 32 := 0#32
  let v251 : BitVec 1 := Scalar.cmpi .slt v247 c0_i32_166
  let v252 : BitVec 1 := Scalar.xori v250 v251
  let c0_i32_164 : BitVec 32 := 0#32
  let v249 : BitVec 1 := Scalar.cmpi .ne v248 c0_i32_164
  let v253 : BitVec 1 := Scalar.andi v252 v249
  let v254 : BitVec 32 := Scalar.addi v248 v247
  let v255 : BitVec 32 := Scalar.select v253 v254 v248
  let c1_i32_168 : BitVec 32 := 1#32
  let v256 : BitVec 32 := Scalar.muli v255 c1_i32_168
  let v257 : BitVec 32 := Scalar.addi c0_i32_169 v256
  v257.toNat
def k0_dev3 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_170 : BitVec 32 := 3#32
  let v258 : BitVec 32 := Scalar.addi v2 c3_i32_170
  let c4_i32_171 : BitVec 32 := 4#32
  let c0_i32_172 : BitVec 32 := 0#32
  let v259 : BitVec 1 := Scalar.cmpi .eq c4_i32_171 c0_i32_172
  let c1_i32_173 : BitVec 32 := 1#32
  let v260 : BitVec 32 := Scalar.select v259 c1_i32_173 c4_i32_171
  let v261 : BitVec 32 := Scalar.remsi v258 v260
  let c0_i32_175 : BitVec 32 := 0#32
  let v263 : BitVec 1 := Scalar.cmpi .slt v261 c0_i32_175
  let c0_i32_176 : BitVec 32 := 0#32
  let v264 : BitVec 1 := Scalar.cmpi .slt v260 c0_i32_176
  let v265 : BitVec 1 := Scalar.xori v263 v264
  let c0_i32_174 : BitVec 32 := 0#32
  let v262 : BitVec 1 := Scalar.cmpi .ne v261 c0_i32_174
  let v266 : BitVec 1 := Scalar.andi v265 v262
  let v267 : BitVec 32 := Scalar.addi v261 v260
  let v268 : BitVec 32 := Scalar.select v266 v267 v261
  let c1_i32_178 : BitVec 32 := 1#32
  let v269 : BitVec 32 := Scalar.muli v268 c1_i32_178
  let v270 : BitVec 32 := Scalar.addi c0_i32_179 v269
  v270.toNat
def k0_dev4 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v15 : BitVec 32 := Scalar.muli c1_i32_6 v14
  let v16 : BitVec 32 := Scalar.addi v2 v15
  let c4_i32_7 : BitVec 32 := 4#32
  let c0_i32_8 : BitVec 32 := 0#32
  let v17 : BitVec 1 := Scalar.cmpi .eq c4_i32_7 c0_i32_8
  let c1_i32_9 : BitVec 32 := 1#32
  let v18 : BitVec 32 := Scalar.select v17 c1_i32_9 c4_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_225 : BitVec 32 := 1#32
  let v311 : BitVec 32 := Scalar.muli v26 c1_i32_225
  let v312 : BitVec 32 := Scalar.addi c0_i32_226 v311
  v312.toNat
def k0_dev5 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v15 : BitVec 32 := Scalar.muli c1_i32_6 v14
  let v16 : BitVec 32 := Scalar.addi v2 v15
  let c4_i32_7 : BitVec 32 := 4#32
  let c0_i32_8 : BitVec 32 := 0#32
  let v17 : BitVec 1 := Scalar.cmpi .eq c4_i32_7 c0_i32_8
  let c1_i32_9 : BitVec 32 := 1#32
  let v18 : BitVec 32 := Scalar.select v17 c1_i32_9 c4_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_258 : BitVec 32 := 1#32
  let v345 : BitVec 32 := Scalar.muli v26 c1_i32_258
  let v346 : BitVec 32 := Scalar.addi c0_i32_259 v345
  v346.toNat
def k0_dev6 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v15 : BitVec 32 := Scalar.muli c1_i32_6 v14
  let v16 : BitVec 32 := Scalar.addi v2 v15
  let c4_i32_7 : BitVec 32 := 4#32
  let c0_i32_8 : BitVec 32 := 0#32
  let v17 : BitVec 1 := Scalar.cmpi .eq c4_i32_7 c0_i32_8
  let c1_i32_9 : BitVec 32 := 1#32
  let v18 : BitVec 32 := Scalar.select v17 c1_i32_9 c4_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_287 : BitVec 32 := 1#32
  let v374 : BitVec 32 := Scalar.muli v26 c1_i32_287
  let v375 : BitVec 32 := Scalar.addi c0_i32_288 v374
  v375.toNat
def k0_dev7 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v15 : BitVec 32 := Scalar.muli c1_i32_6 v14
  let v16 : BitVec 32 := Scalar.addi v2 v15
  let c4_i32_7 : BitVec 32 := 4#32
  let c0_i32_8 : BitVec 32 := 0#32
  let v17 : BitVec 1 := Scalar.cmpi .eq c4_i32_7 c0_i32_8
  let c1_i32_9 : BitVec 32 := 1#32
  let v18 : BitVec 32 := Scalar.select v17 c1_i32_9 c4_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_316 : BitVec 32 := 1#32
  let v403 : BitVec 32 := Scalar.muli v26 c1_i32_316
  let v404 : BitVec 32 := Scalar.addi c0_i32_317 v403
  v404.toNat
def k0_dev8 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v27 : BitVec 32 := Scalar.muli c2_i32_13 v14
  let v28 : BitVec 32 := Scalar.addi v2 v27
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_351 : BitVec 32 := 1#32
  let v437 : BitVec 32 := Scalar.muli v38 c1_i32_351
  let v438 : BitVec 32 := Scalar.addi c0_i32_352 v437
  v438.toNat
def k0_dev9 (d0 : Dev nD) : Nat :=
  let c0_i32_370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v27 : BitVec 32 := Scalar.muli c2_i32_13 v14
  let v28 : BitVec 32 := Scalar.addi v2 v27
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_369 : BitVec 32 := 1#32
  let v455 : BitVec 32 := Scalar.muli v38 c1_i32_369
  let v456 : BitVec 32 := Scalar.addi c0_i32_370 v455
  v456.toNat
def k0_dev10 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v27 : BitVec 32 := Scalar.muli c2_i32_13 v14
  let v28 : BitVec 32 := Scalar.addi v2 v27
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_387 : BitVec 32 := 1#32
  let v473 : BitVec 32 := Scalar.muli v38 c1_i32_387
  let v474 : BitVec 32 := Scalar.addi c0_i32_388 v473
  v474.toNat
def k0_dev11 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_13 : BitVec 32 := 2#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v27 : BitVec 32 := Scalar.muli c2_i32_13 v14
  let v28 : BitVec 32 := Scalar.addi v2 v27
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c1_i32_405 : BitVec 32 := 1#32
  let v491 : BitVec 32 := Scalar.muli v38 c1_i32_405
  let v492 : BitVec 32 := Scalar.addi c0_i32_406 v491
  v492.toNat
def k0_dev12 (d0 : Dev nD) : Nat :=
  let c0_i32_434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v39 : BitVec 32 := Scalar.muli c3_i32 v14
  let v40 : BitVec 32 := Scalar.addi v2 v39
  let c4_i32_20 : BitVec 32 := 4#32
  let c0_i32_21 : BitVec 32 := 0#32
  let v41 : BitVec 1 := Scalar.cmpi .eq c4_i32_20 c0_i32_21
  let c1_i32_22 : BitVec 32 := 1#32
  let v42 : BitVec 32 := Scalar.select v41 c1_i32_22 c4_i32_20
  let v43 : BitVec 32 := Scalar.remsi v40 v42
  let c0_i32_24 : BitVec 32 := 0#32
  let v45 : BitVec 1 := Scalar.cmpi .slt v43 c0_i32_24
  let c0_i32_25 : BitVec 32 := 0#32
  let v46 : BitVec 1 := Scalar.cmpi .slt v42 c0_i32_25
  let v47 : BitVec 1 := Scalar.xori v45 v46
  let c0_i32_23 : BitVec 32 := 0#32
  let v44 : BitVec 1 := Scalar.cmpi .ne v43 c0_i32_23
  let v48 : BitVec 1 := Scalar.andi v47 v44
  let v49 : BitVec 32 := Scalar.addi v43 v42
  let v50 : BitVec 32 := Scalar.select v48 v49 v43
  let c1_i32_433 : BitVec 32 := 1#32
  let v520 : BitVec 32 := Scalar.muli v50 c1_i32_433
  let v521 : BitVec 32 := Scalar.addi c0_i32_434 v520
  v521.toNat
def k0_dev13 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v39 : BitVec 32 := Scalar.muli c3_i32 v14
  let v40 : BitVec 32 := Scalar.addi v2 v39
  let c4_i32_20 : BitVec 32 := 4#32
  let c0_i32_21 : BitVec 32 := 0#32
  let v41 : BitVec 1 := Scalar.cmpi .eq c4_i32_20 c0_i32_21
  let c1_i32_22 : BitVec 32 := 1#32
  let v42 : BitVec 32 := Scalar.select v41 c1_i32_22 c4_i32_20
  let v43 : BitVec 32 := Scalar.remsi v40 v42
  let c0_i32_24 : BitVec 32 := 0#32
  let v45 : BitVec 1 := Scalar.cmpi .slt v43 c0_i32_24
  let c0_i32_25 : BitVec 32 := 0#32
  let v46 : BitVec 1 := Scalar.cmpi .slt v42 c0_i32_25
  let v47 : BitVec 1 := Scalar.xori v45 v46
  let c0_i32_23 : BitVec 32 := 0#32
  let v44 : BitVec 1 := Scalar.cmpi .ne v43 c0_i32_23
  let v48 : BitVec 1 := Scalar.andi v47 v44
  let v49 : BitVec 32 := Scalar.addi v43 v42
  let v50 : BitVec 32 := Scalar.select v48 v49 v43
  let c1_i32_451 : BitVec 32 := 1#32
  let v538 : BitVec 32 := Scalar.muli v50 c1_i32_451
  let v539 : BitVec 32 := Scalar.addi c0_i32_452 v538
  v539.toNat
def k0_dev14 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v39 : BitVec 32 := Scalar.muli c3_i32 v14
  let v40 : BitVec 32 := Scalar.addi v2 v39
  let c4_i32_20 : BitVec 32 := 4#32
  let c0_i32_21 : BitVec 32 := 0#32
  let v41 : BitVec 1 := Scalar.cmpi .eq c4_i32_20 c0_i32_21
  let c1_i32_22 : BitVec 32 := 1#32
  let v42 : BitVec 32 := Scalar.select v41 c1_i32_22 c4_i32_20
  let v43 : BitVec 32 := Scalar.remsi v40 v42
  let c0_i32_24 : BitVec 32 := 0#32
  let v45 : BitVec 1 := Scalar.cmpi .slt v43 c0_i32_24
  let c0_i32_25 : BitVec 32 := 0#32
  let v46 : BitVec 1 := Scalar.cmpi .slt v42 c0_i32_25
  let v47 : BitVec 1 := Scalar.xori v45 v46
  let c0_i32_23 : BitVec 32 := 0#32
  let v44 : BitVec 1 := Scalar.cmpi .ne v43 c0_i32_23
  let v48 : BitVec 1 := Scalar.andi v47 v44
  let v49 : BitVec 32 := Scalar.addi v43 v42
  let v50 : BitVec 32 := Scalar.select v48 v49 v43
  let c1_i32_469 : BitVec 32 := 1#32
  let v556 : BitVec 32 := Scalar.muli v50 c1_i32_469
  let v557 : BitVec 32 := Scalar.addi c0_i32_470 v556
  v557.toNat
def k0_dev15 (d0 : Dev nD) : Nat :=
  let c0_i32_488 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let c1_i32_5 : BitVec 32 := 1#32
  let c2_i32_4 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.muli c2_i32_4 v12
  let v14 : BitVec 32 := Scalar.subi c1_i32_5 v13
  let v39 : BitVec 32 := Scalar.muli c3_i32 v14
  let v40 : BitVec 32 := Scalar.addi v2 v39
  let c4_i32_20 : BitVec 32 := 4#32
  let c0_i32_21 : BitVec 32 := 0#32
  let v41 : BitVec 1 := Scalar.cmpi .eq c4_i32_20 c0_i32_21
  let c1_i32_22 : BitVec 32 := 1#32
  let v42 : BitVec 32 := Scalar.select v41 c1_i32_22 c4_i32_20
  let v43 : BitVec 32 := Scalar.remsi v40 v42
  let c0_i32_24 : BitVec 32 := 0#32
  let v45 : BitVec 1 := Scalar.cmpi .slt v43 c0_i32_24
  let c0_i32_25 : BitVec 32 := 0#32
  let v46 : BitVec 1 := Scalar.cmpi .slt v42 c0_i32_25
  let v47 : BitVec 1 := Scalar.xori v45 v46
  let c0_i32_23 : BitVec 32 := 0#32
  let v44 : BitVec 1 := Scalar.cmpi .ne v43 c0_i32_23
  let v48 : BitVec 1 := Scalar.andi v47 v44
  let v49 : BitVec 32 := Scalar.addi v43 v42
  let v50 : BitVec 32 := Scalar.select v48 v49 v43
  let c1_i32_487 : BitVec 32 := 1#32
  let v574 : BitVec 32 := Scalar.muli v50 c1_i32_487
  let v575 : BitVec 32 := Scalar.addi c0_i32_488 v574
  v575.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v623 : BitVec 32 := Scalar.muli v2 c1024_i32
  let c0_i32_541 : BitVec 32 := 0#32
  ![v623.toNat, 0]
def k0_off3 (d0 : Dev nD) (c0_i32_33 : BitVec 32) (c0_i32_48 : BitVec 32) (c0_i32_56 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v63 : BitVec 32 := Scalar.subi v2 c0_i32_33
  let c1_i32_34 : BitVec 32 := 1#32
  let v64 : BitVec 32 := Scalar.subi v63 c1_i32_34
  let c4_i32_35 : BitVec 32 := 4#32
  let c0_i32_36 : BitVec 32 := 0#32
  let v65 : BitVec 1 := Scalar.cmpi .eq c4_i32_35 c0_i32_36
  let c1_i32_37 : BitVec 32 := 1#32
  let v66 : BitVec 32 := Scalar.select v65 c1_i32_37 c4_i32_35
  let v67 : BitVec 32 := Scalar.remsi v64 v66
  let c0_i32_39 : BitVec 32 := 0#32
  let v69 : BitVec 1 := Scalar.cmpi .slt v67 c0_i32_39
  let c0_i32_40 : BitVec 32 := 0#32
  let v70 : BitVec 1 := Scalar.cmpi .slt v66 c0_i32_40
  let v71 : BitVec 1 := Scalar.xori v69 v70
  let c0_i32_38 : BitVec 32 := 0#32
  let v68 : BitVec 1 := Scalar.cmpi .ne v67 c0_i32_38
  let v72 : BitVec 1 := Scalar.andi v71 v68
  let v73 : BitVec 32 := Scalar.addi v67 v66
  let v74 : BitVec 32 := Scalar.select v72 v73 v67
  let c2_i32_41 : BitVec 32 := 2#32
  let c0_i32_42 : BitVec 32 := 0#32
  let v75 : BitVec 1 := Scalar.cmpi .eq c2_i32_41 c0_i32_42
  let c1_i32_43 : BitVec 32 := 1#32
  let v76 : BitVec 32 := Scalar.select v75 c1_i32_43 c2_i32_41
  let v77 : BitVec 32 := Scalar.remsi v74 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let c0_i32_47 : BitVec 32 := 0#32
  let v85 : BitVec 1 := Scalar.cmpi .eq v84 c0_i32_47
  let v86 : BitVec 32 := Scalar.subi v2 c0_i32_48
  let c1_i32_49 : BitVec 32 := 1#32
  let v87 : BitVec 32 := Scalar.subi v86 c1_i32_49
  let c4_i32_50 : BitVec 32 := 4#32
  let c0_i32_51 : BitVec 32 := 0#32
  let v88 : BitVec 1 := Scalar.cmpi .eq c4_i32_50 c0_i32_51
  let c1_i32_52 : BitVec 32 := 1#32
  let v89 : BitVec 32 := Scalar.select v88 c1_i32_52 c4_i32_50
  let v90 : BitVec 32 := Scalar.remsi v87 v89
  let c0_i32_54 : BitVec 32 := 0#32
  let v92 : BitVec 1 := Scalar.cmpi .slt v90 c0_i32_54
  let c0_i32_55 : BitVec 32 := 0#32
  let v93 : BitVec 1 := Scalar.cmpi .slt v89 c0_i32_55
  let v94 : BitVec 1 := Scalar.xori v92 v93
  let c0_i32_53 : BitVec 32 := 0#32
  let v91 : BitVec 1 := Scalar.cmpi .ne v90 c0_i32_53
  let v95 : BitVec 1 := Scalar.andi v94 v91
  let v96 : BitVec 32 := Scalar.addi v90 v89
  let v97 : BitVec 32 := Scalar.select v95 v96 v90
  let v98 : BitVec 32 := Scalar.addi v2 c0_i32_56
  let c1_i32_57 : BitVec 32 := 1#32
  let v99 : BitVec 32 := Scalar.addi v98 c1_i32_57
  let c4_i32_58 : BitVec 32 := 4#32
  let c0_i32_59 : BitVec 32 := 0#32
  let v100 : BitVec 1 := Scalar.cmpi .eq c4_i32_58 c0_i32_59
  let c1_i32_60 : BitVec 32 := 1#32
  let v101 : BitVec 32 := Scalar.select v100 c1_i32_60 c4_i32_58
  let v102 : BitVec 32 := Scalar.remsi v99 v101
  let c0_i32_62 : BitVec 32 := 0#32
  let v104 : BitVec 1 := Scalar.cmpi .slt v102 c0_i32_62
  let c0_i32_63 : BitVec 32 := 0#32
  let v105 : BitVec 1 := Scalar.cmpi .slt v101 c0_i32_63
  let v106 : BitVec 1 := Scalar.xori v104 v105
  let c0_i32_61 : BitVec 32 := 0#32
  let v103 : BitVec 1 := Scalar.cmpi .ne v102 c0_i32_61
  let v107 : BitVec 1 := Scalar.andi v106 v103
  let v108 : BitVec 32 := Scalar.addi v102 v101
  let v109 : BitVec 32 := Scalar.select v107 v108 v102
  let v110 : BitVec 32 := Scalar.select v85 v97 v109
  let c1024_i32_608 : BitVec 32 := 1024#32
  let v685 : BitVec 32 := Scalar.muli v110 c1024_i32_608
  let c0_i32_611 : BitVec 32 := 0#32
  ![v685.toNat, 0]
def k0_off3_at (r : Fin 3) : BitVec 32 × BitVec 32 × BitVec 32 :=
  if r.val < 1 then
    (0#32, 0#32, 0#32)
  else
    if r.val < 2 then
      (1#32, 1#32, 1#32)
    else
      (2#32, 2#32, 2#32)
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Blocks.lean ====
/-
# The kernel body as a sequence of blocks

The body runs the same few blocks over and over: start a copy of `x` rows or of `w` columns into a staging slot,
cast what has landed, multiply a chunk and push it to another device, take a chunk that has come in, write a finished
slot out. This module names each block once, at symbolic chunk `r`, step `s` and slot `p`, and says that the printed
body is the sequence of those blocks.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-! ## The rectangles -/

/-- Slot `p` of the staging buffer of `x`. -/
abbrev xfR (p : Fin 2) : Rect S2x256x4096 :=
  Rect.unit (s := S2x256x4096) ![p.val, 0, 0] S1x256x4096.size (by revert p; decide)
/-- Rows `256 r …` of the `x` block. -/
abbrev xR (r : Fin 4) : Rect S1024x4096 :=
  Rect.unit (s := S1024x4096) ![256 * r.val, 0] S256x4096.size (by revert r; decide)
/-- Slot `p` of the two buffers of `w` columns. -/
abbrev wfR (p : Fin 2) : Rect S2x4096x512 :=
  Rect.unit (s := S2x4096x512) ![p.val, 0, 0] S1x4096x512.size (by revert p; decide)
/-- Columns of `w` from the given offset. -/
abbrev wR (off : Fin 2 → Nat) (h : ∀ a, off a + S4096x512.size a ≤ S4096x2048.size a) : Rect S4096x2048 :=
  Rect.unit (s := S4096x2048) off S4096x512.size h
/-- Chunk `r` of slot `s` of the send and of the receive buffer. -/
abbrev cR (s : Fin 3) (r : Fin 4) : Rect S3x1024x512 :=
  Rect.unit (s := S3x1024x512) ![s.val, 256 * r.val, 0] S1x256x512.size (by revert s r; decide)
/-- Chunk `r` of slot `s` of the output stage. -/
abbrev oR (s : Fin 4) (r : Fin 4) : Rect S4x1024x512 :=
  Rect.unit (s := S4x1024x512) ![s.val, 256 * r.val, 0] S1x256x512.size (by revert s r; decide)
/-- Slot `s` of the output stage. -/
abbrev osR (s : Fin 4) : Rect S4x1024x512 :=
  Rect.unit (s := S4x1024x512) ![s.val, 0, 0] S1x1024x512.size (by revert s; decide)
/-- Rows of the result from the given offset. -/
abbrev yR (off : Fin 2 → Nat) (h : ∀ a, off a + S1024x512.size a ≤ S4096x512.size a) : Rect S4096x512 :=
  Rect.unit (s := S4096x512) off S1024x512.size h

theorem packed_x (r : Fin 4) : (xR r).PackedRows (EltTy.packing .bf16) := by revert r; decide
theorem packed_w (p : Fin 2) : (wfR p).PackedRows (EltTy.packing .bf16) := by revert p; decide
theorem packed_c (s : Fin 3) (r : Fin 4) : (cR s r).PackedRows (EltTy.packing .bf16) := by revert s r; decide
theorem words_c (s : Fin 3) (r : Fin 4) : (cR s r).WholeWords (EltTy.packing .bf16) := by revert s r; decide

/-! ## The memrefs -/

abbrev mx : Memref sig .tc .hbm S1024x4096 .f32 := Memref.whole main_arg0
abbrev mw : Memref sig .tc .hbm S4096x2048 .f32 := Memref.whole main_arg1
abbrev my : Memref sig .tc .hbm S4096x512 .f32 := Memref.whole main_v1
abbrev mxf : Memref sig .tc .vmem S2x256x4096 .f32 := Memref.whole cc0_scratch0
abbrev mxb : Memref sig .tc .vmem S1024x4096 .bf16 := Memref.whole cc0_scratch1
abbrev mwf : Memref sig .tc .vmem S2x4096x512 .f32 := Memref.whole cc0_scratch2
abbrev mwb : Memref sig .tc .vmem S2x4096x512 .bf16 := Memref.whole cc0_scratch3
abbrev msd : Memref sig .tc .vmem S3x1024x512 .bf16 := Memref.whole cc0_scratch4
abbrev mrv : Memref sig .tc .vmem S3x1024x512 .bf16 := Memref.whole cc0_scratch5
abbrev mo : Memref sig .tc .vmem S4x1024x512 .f32 := Memref.whole cc0_scratch6

/-- The rows of `x` a transfer reads, and the slot it fills. -/
abbrev xSrc (r : Fin 4) : Memref sig .tc .hbm S256x4096 .f32 := mx.slice (xR r) (fun _ => rfl)
abbrev xfSl (p : Fin 2) : Memref sig .tc .vmem S1x256x4096 .f32 := mxf.slice (xfR p) (fun _ => rfl)
abbrev xDst (p : Fin 2) : Memref sig .tc .vmem S256x4096 .f32 := (xfSl p).squeeze S256x4096 squeezes_S1x256x4096_S256x4096
abbrev xbSl (r : Fin 4) : Memref sig .tc .vmem S256x4096 .bf16 := mxb.slice (xR r) (fun _ => rfl)
/-- The columns of `w` a transfer reads, and the slot it fills. -/
abbrev wSrc (off : Fin 2 → Nat) (h : ∀ a, off a + S4096x512.size a ≤ S4096x2048.size a) : Memref sig .tc .hbm S4096x512 .f32 :=
  mw.slice (wR off h) (fun _ => rfl)
abbrev wfSl (p : Fin 2) : Memref sig .tc .vmem S1x4096x512 .f32 := mwf.slice (wfR p) (fun _ => rfl)
abbrev wDst (p : Fin 2) : Memref sig .tc .vmem S4096x512 .f32 := (wfSl p).squeeze S4096x512 squeezes_S1x4096x512_S4096x512
abbrev wbSl (p : Fin 2) : Memref sig .tc .vmem S1x4096x512 .bf16 := mwb.slice (wfR p) (fun _ => rfl)
/-- The chunk a push reads, and the one it fills. -/
abbrev sdSl (s : Fin 3) (r : Fin 4) : Memref sig .tc .vmem S1x256x512 .bf16 := msd.slice (cR s r) (fun _ => rfl)
abbrev sdM (s : Fin 3) (r : Fin 4) : Memref sig .tc .vmem S256x512 .bf16 := (sdSl s r).squeeze S256x512 squeezes_S1x256x512_S256x512
abbrev rvSl (s : Fin 3) (r : Fin 4) : Memref sig .tc .vmem S1x256x512 .bf16 := mrv.slice (cR s r) (fun _ => rfl)
abbrev rvM (s : Fin 3) (r : Fin 4) : Memref sig .tc .vmem S256x512 .bf16 := (rvSl s r).squeeze S256x512 squeezes_S1x256x512_S256x512
/-- A chunk and a slot of the output stage, and the rows of the result a slot is written to. -/
abbrev oSl (s r : Fin 4) : Memref sig .tc .vmem S1x256x512 .f32 := mo.slice (oR s r) (fun _ => rfl)
abbrev osSl (s : Fin 4) : Memref sig .tc .vmem S1x1024x512 .f32 := mo.slice (osR s) (fun _ => rfl)
abbrev oSrc (s : Fin 4) : Memref sig .tc .vmem S1024x512 .f32 := (osSl s).squeeze S1024x512 squeezes_S1x1024x512_S1024x512
abbrev yDst (off : Fin 2 → Nat) (h : ∀ a, off a + S1024x512.size a ≤ S4096x512.size a) : Memref sig .tc .hbm S1024x512 .f32 :=
  my.slice (yR off h) (fun _ => rfl)

/-! ## The semaphores -/

abbrev sx (p : Fin 2) : DmaSem sig := ⟨p.val, by revert p; decide⟩
abbrev sw (p : Fin 2) : DmaSem sig := ⟨2 + p.val, by revert p; decide⟩
abbrev ss (s : Fin 3) (r : Fin 4) : DmaSem sig := ⟨4 + (4 * s.val + r.val), by revert s r; decide⟩
abbrev sr (s : Fin 3) (r : Fin 4) : DmaSem sig := ⟨16 + (4 * s.val + r.val), by revert s r; decide⟩
abbrev so (s : Fin 4) : DmaSem sig := ⟨28 + s.val, by revert s; decide⟩

/-! ## The values -/

/-- A slot of `w` columns cast. -/
abbrev castW (v : Vec F S1x4096x512 .f32) : FVec F S1x4096x512 .bf16 := k0_pay1 v
/-- A slot of `x` rows cast. -/
abbrev castX (v : Vec F S1x256x4096 .f32) : FVec F S256x4096 .bf16 := k0_pay2 v
/-- A chunk's product, rounded for the wire. -/
abbrev prodB (a : Vec F S256x4096 .bf16) (b : Vec F S1x4096x512 .bf16) : FVec F S1x256x512 .bf16 := k0_pay3 a b
/-- A chunk's product. -/
abbrev prodF (a : Vec F S256x4096 .bf16) (b : Vec F S1x4096x512 .bf16) : FVec F S1x256x512 .f32 := k0_pay22 a b
/-- A received chunk widened. -/
abbrev wide (v : Vec F S1x256x512 .bf16) : FVec F S1x256x512 .f32 := k0_pay27 v

/-! ## The blocks -/

abbrev P (F : FTy → Type) : Type → Type _ := Prog (TpuEff nD τ sig (Elt F) Λ₀ .tc)

/-- Start copying rows `r` of `x` into slot `p`. -/
def xStart (p : Fin 2) (r : Fin 4) : P F PUnit :=
  Prog.lift (.enqueueDma (xSrc r) (.here (xDst p)) (.dma (sx p)) (View.wordExact_bits rfl) ((View.wordExact_bits rfl).reshape _ _) ⟨Or.inl rfl, trivial⟩)
def xWait (p : Fin 2) (r : Fin 4) : P F PUnit :=
  Prog.lift (.waitDma2 (sx p) (xSrc r) (xDst p) (View.wordExact_bits rfl) ((View.wordExact_bits rfl).reshape _ _))
/-- Cast the rows in slot `p` into rows `r` of the cast copy. -/
def xCast (p : Fin 2) (r : Fin 4) : P F PUnit := do
  let v : Vec F S1x256x4096 .f32 ← Prog.lift (.load mxf (xfR p).toLoadRect (View.loadsAt_vmem h_S1x256x4096))
  let _ : Vec F S256x4096 .bf16 ← Prog.lift (.load mxb (xR r).toLoadRect (View.loadsAt_vmem h_S256x4096))
  Prog.lift (.store mxb (xR r) (castX v) Finset.univ (View.stores_vmem h_S256x4096 ((Memref.isWhole_whole _).storeExact_slice rfl _ (packed_x r)) (fun _ => rfl)) (.inl rfl))

/-- Start copying `w`'s columns at `off` into slot `p`. -/
def wStart (p : Fin 2) (off : Fin 2 → Nat) (h : ∀ a, off a + S4096x512.size a ≤ S4096x2048.size a) : P F PUnit :=
  Prog.lift (.enqueueDma (wSrc off h) (.here (wDst p)) (.dma (sw p)) (View.wordExact_bits rfl) ((View.wordExact_bits rfl).reshape _ _) ⟨Or.inl rfl, trivial⟩)
def wWait (p : Fin 2) (off : Fin 2 → Nat) (h : ∀ a, off a + S4096x512.size a ≤ S4096x2048.size a) : P F PUnit :=
  Prog.lift (.waitDma2 (sw p) (wSrc off h) (wDst p) (View.wordExact_bits rfl) ((View.wordExact_bits rfl).reshape _ _))
def wCast (p : Fin 2) : P F PUnit := do
  let v : Vec F S1x4096x512 .f32 ← Prog.lift (.load mwf (wfR p).toLoadRect (View.loadsAt_vmem h_S1x4096x512))
  let _ : Vec F S1x4096x512 .bf16 ← Prog.lift (.load mwb (wfR p).toLoadRect (View.loadsAt_vmem h_S1x4096x512))
  Prog.lift (.store mwb (wfR p) (castW v) Finset.univ (View.stores_vmem h_S1x4096x512 ((Memref.isWhole_whole _).storeExact_slice rfl _ (packed_w p)) (fun _ => rfl)) (.inl rfl))

/-- Multiply rows `r` by the columns in slot `p` into chunk `r` of send slot `s`. -/
def mulSend (p : Fin 2) (s : Fin 3) (r : Fin 4) : P F PUnit := do
  let a : Vec F S256x4096 .bf16 ← Prog.lift (.load mxb (xR r).toLoadRect (View.loadsAt_vmem h_S256x4096))
  let b : Vec F S1x4096x512 .bf16 ← Prog.lift (.load mwb (wfR p).toLoadRect (View.loadsAt_vmem h_S1x4096x512))
  let _ : Vec F S1x256x512 .bf16 ← Prog.lift (.load msd (cR s r).toLoadRect (View.loadsAt_vmem h_S1x256x512))
  Prog.lift (.store msd (cR s r) (prodB a b) Finset.univ (View.stores_vmem h_S1x256x512 ((Memref.isWhole_whole _).storeExact_slice rfl _ (packed_c s r)) (fun _ => rfl)) (.inl rfl))
/-- Push chunk `r` of send slot `s` to device `d`. -/
def push (d : Dev nD) (s : Fin 3) (r : Fin 4) : P F PUnit :=
  Prog.lift (.enqueueDma (sdM s r) (.remote (Dev.tc d) (rvM s r) (.dma (ss s r))) (.dma (sr s r))
    (((Memref.isWhole_whole _).wordExact_slice rfl _ (words_c s r)).reshape _ _) (((Memref.isWhole_whole _).wordExact_slice rfl _ (words_c s r)).reshape _ _) ⟨⟨rfl, Or.inl rfl⟩, trivial⟩)
/-- Multiply rows `r` by the columns in slot `p` into chunk `r` of the stage's own slot. -/
def mulKeep (p : Fin 2) (r : Fin 4) : P F PUnit := do
  let a : Vec F S256x4096 .bf16 ← Prog.lift (.load mxb (xR r).toLoadRect (View.loadsAt_vmem h_S256x4096))
  let b : Vec F S1x4096x512 .bf16 ← Prog.lift (.load mwb (wfR p).toLoadRect (View.loadsAt_vmem h_S1x4096x512))
  let _ : Vec F S1x256x512 .f32 ← Prog.lift (.load mo (oR 3 r).toLoadRect (View.loadsAt_vmem h_S1x256x512))
  Prog.lift (.store mo (oR 3 r) (prodF a b) Finset.univ (View.stores_vmem_bits_univ h_S1x256x512 rfl) (.inl rfl))

/-- Wait for chunk `r` of slot `s` to come in. -/
def recvWait (s : Fin 3) (r : Fin 4) : P F PUnit :=
  Prog.lift (.waitDma2 (sr s r) (sdM s r) (rvM s r) (((Memref.isWhole_whole _).wordExact_slice rfl _ (words_c s r)).reshape _ _) (((Memref.isWhole_whole _).wordExact_slice rfl _ (words_c s r)).reshape _ _))
/-- Widen it into the output stage. -/
def widen (s : Fin 3) (r : Fin 4) : P F PUnit := do
  let v : Vec F S1x256x512 .bf16 ← Prog.lift (.load mrv (cR s r).toLoadRect (View.loadsAt_vmem h_S1x256x512))
  let _ : Vec F S1x256x512 .f32 ← Prog.lift (.load mo (oR s.castSucc r).toLoadRect (View.loadsAt_vmem h_S1x256x512))
  Prog.lift (.store mo (oR s.castSucc r) (wide v) Finset.univ (View.stores_vmem_bits_univ h_S1x256x512 rfl) (.inl rfl))
/-- Wait until the push of chunk `r` of slot `s` has left. -/
def sendWait (s : Fin 3) (r : Fin 4) : P F PUnit :=
  Prog.lift (.waitDma2 (ss s r) (rvM s r) (sdM s r) (((Memref.isWhole_whole _).wordExact_slice rfl _ (words_c s r)).reshape _ _) (((Memref.isWhole_whole _).wordExact_slice rfl _ (words_c s r)).reshape _ _))

/-- Start writing stage slot `s` to the result's rows at `off`. -/
def oStart (s : Fin 4) (off : Fin 2 → Nat) (h : ∀ a, off a + S1024x512.size a ≤ S4096x512.size a) : P F PUnit :=
  Prog.lift (.enqueueDma (oSrc s) (.here (yDst off h)) (.dma (so s)) ((View.wordExact_bits rfl).reshape _ _) (View.wordExact_bits rfl) ⟨Or.inl rfl, trivial⟩)
def oWait (s : Fin 4) (off : Fin 2 → Nat) (h : ∀ a, off a + S1024x512.size a ≤ S4096x512.size a) : P F PUnit :=
  Prog.lift (.waitDma2 (so s) (oSrc s) (yDst off h) ((View.wordExact_bits rfl).reshape _ _) (View.wordExact_bits rfl))

/-! ## The body -/

/-- The first step's chunk: wait for the rows, cast them, maybe start the next rows, multiply, push. -/
def first (d : Dev nD) (p : Fin 2) (r : Fin 4) (next : P F PUnit) : P F PUnit := do
  xWait p r; xCast p r; next; mulSend 0 0 r; push d 0 r

/-- Receive chunk `r` of slot `s` and widen it. -/
def take (s : Fin 3) (r : Fin 4) : P F PUnit := do recvWait s r; widen s r

/-- Everything before the barrier's wait returns. -/
def opening (c : Dev nD) : P F PUnit := do
  xStart 0 0
  wStart 0 (k0_off1 c 1#32) (k0_off1_inb c 0)
  xStart 1 1
  wStart 1 (k0_off1 c 2#32) (k0_off1_inb c 1)
  semSignalWord (⟨k0_dev1 c, k0_dev1_lt c⟩ : Dev nD) barrier0 1#32
  semSignalWord (⟨k0_dev2 c, k0_dev2_lt c⟩ : Dev nD) barrier0 1#32
  semSignalWord (⟨k0_dev3 c, k0_dev3_lt c⟩ : Dev nD) barrier0 1#32
  semWaitWord barrier0 3#32

/-- Step 0. -/
def step0 (c : Dev nD) : P F PUnit := do
  wWait 0 (k0_off1 c 1#32) (k0_off1_inb c 0); wCast 0; wStart 0 (k0_off1 c 3#32) (k0_off1_inb c 2)
  first ⟨k0_dev4 c, k0_dev4_lt c⟩ 0 0 (xStart 0 2)
  first ⟨k0_dev5 c, k0_dev5_lt c⟩ 1 1 (xStart 1 3)
  first ⟨k0_dev6 c, k0_dev6_lt c⟩ 0 2 (pure ⟨⟩)
  first ⟨k0_dev7 c, k0_dev7_lt c⟩ 1 3 (pure ⟨⟩)

/-- The four chunks of a later step. -/
def sends (p : Fin 2) (s : Fin 3) (d0 d1 d2 d3 : Dev nD) : P F PUnit := do
  mulSend p s 0; push d0 s 0; mulSend p s 1; push d1 s 1; mulSend p s 2; push d2 s 2; mulSend p s 3; push d3 s 3

def step1 (c : Dev nD) : P F PUnit := do
  wWait 1 (k0_off1 c 2#32) (k0_off1_inb c 1); wCast 1; wStart 1 (k0_off1 c 4#32) (k0_off1_inb c 3)
  sends 1 1 ⟨k0_dev8 c, k0_dev8_lt c⟩ ⟨k0_dev9 c, k0_dev9_lt c⟩ ⟨k0_dev10 c, k0_dev10_lt c⟩ ⟨k0_dev11 c, k0_dev11_lt c⟩

def step2 (c : Dev nD) : P F PUnit := do
  wWait 0 (k0_off1 c 3#32) (k0_off1_inb c 2); wCast 0
  sends 0 2 ⟨k0_dev12 c, k0_dev12_lt c⟩ ⟨k0_dev13 c, k0_dev13_lt c⟩ ⟨k0_dev14 c, k0_dev14_lt c⟩ ⟨k0_dev15 c, k0_dev15_lt c⟩

def step3 (c : Dev nD) : P F PUnit := do
  wWait 1 (k0_off1 c 4#32) (k0_off1_inb c 3); wCast 1
  mulKeep 1 0; mulKeep 1 1; mulKeep 1 2; mulKeep 1 3
  oStart 3 (k0_off2 c) (k0_off2_inb c)

/-- Take slot `s` in and write it out. -/
def takeAll (s : Fin 3) (off : Fin 2 → Nat) (h : ∀ a, off a + S1024x512.size a ≤ S4096x512.size a) : P F PUnit := do
  take s 0; take s 1; take s 2; take s 3; oStart s.castSucc off h

def closing (c : Dev nD) : P F PUnit := do
  sendWait 0 0; sendWait 0 1; sendWait 0 2; sendWait 0 3
  sendWait 1 0; sendWait 1 1; sendWait 1 2; sendWait 1 3
  sendWait 2 0; sendWait 2 1; sendWait 2 2; sendWait 2 3
  oWait 0 (k0_off3 c 0#32 0#32 0#32) (k0_off3_inb c 0)
  oWait 1 (k0_off3 c 1#32 1#32 1#32) (k0_off3_inb c 1)
  oWait 2 (k0_off3 c 2#32 2#32 2#32) (k0_off3_inb c 2)
  oWait 3 (k0_off2 c) (k0_off2_inb c)

/-- The whole body on device `c`. -/
def blocks (c : Dev nD) : P F PUnit := do
  opening c; step0 c; step1 c; step2 c; step3 c
  takeAll 0 (k0_off3 c 0#32 0#32 0#32) (k0_off3_inb c 0)
  takeAll 1 (k0_off3 c 1#32 1#32 1#32) (k0_off3_inb c 1)
  takeAll 2 (k0_off3 c 2#32 2#32 2#32) (k0_off3_inb c 2)
  closing c

set_option maxRecDepth 65536 in
theorem body_eq (t : Fin cfg0.N) :
    bodyAt0 (F := F) t = (do let c : Dev nD ← Prog.lift .deviceId; blocks c) := rfl

end Cert.KernelIdeal.Run

end
-- ==== Proof.Peers.lean ====
/-
# Who talks to whom, and the body with the devices and offsets in closed form

At step `s` an even device `c` sends to `c + (s+1)` and an odd one to `c - (s+1)`, modulo four. Each step's map is its
own inverse, so at step `s` a device receives from the device it sends to. The device numbers and offsets the body
computes are read off in these terms, and the body is restated over them.
-/
module

public import proofs.«01_k».proof.Proof.Blocks

@[expose] public section

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-! ## The devices -/

/-- The device whose columns step `s` of device `c` computes (`s = 3`: its own). -/
def dst (s : Fin 4) (c : Dev nD) : Dev nD :=
  ⟨if c.val % 2 = 0 then (c.val + (s.val + 1)) % 4 else (c.val + 3 * (s.val + 1)) % 4, by
    split <;> exact Nat.mod_lt _ (by decide)⟩
/-- The device that step `s` of device `c` sends to, and receives from. -/
abbrev peer (s : Fin 3) (c : Dev nD) : Dev nD := dst s.castSucc c

theorem dst_dst (s : Fin 4) (c : Dev nD) : dst s (dst s c) = c := by revert s c; decide
theorem peer_peer (s : Fin 3) (c : Dev nD) : peer s (peer s c) = c := dst_dst _ c
theorem dst_three (c : Dev nD) : dst 3 c = c := by revert c; decide
theorem peer_ne (s : Fin 3) (c : Dev nD) : peer s c ≠ c := by revert s c; decide
theorem dst_inj (c : Dev nD) : Function.Injective fun s => dst s c := by revert c; decide
theorem peer_inj {s s' : Fin 3} {c : Dev nD} (h : peer s c = peer s' c) : s = s' :=
  Fin.castSucc_injective _ (dst_inj c h)

/-- A step's map as a permutation of the devices. -/
def swap (s : Fin 3) : Dev nD ≃ Dev nD := ⟨peer s, peer s, peer_peer s, peer_peer s⟩

/-- The `k`-th device that device `c` greets is the one it sends to at this step. -/
def greet (k : Fin 3) (c : Dev nD) : Fin 3 := if c.val % 2 = 0 then k else k.rev

/-! ## The offsets -/

/-- Where the columns of step `s` start in `w`. -/
abbrev wOff (s : Fin 4) (c : Dev nD) : Fin 2 → Nat := ![0, 512 * (dst s c).val]
/-- Where the rows that slot `s` of the output stage holds start in the result. -/
abbrev yOff (s : Fin 4) (c : Dev nD) : Fin 2 → Nat := ![1024 * (dst s c).val, 0]
theorem wOff_inb (s : Fin 4) (c : Dev nD) : ∀ a, wOff s c a + S4096x512.size a ≤ S4096x2048.size a := by
  revert s c; decide
theorem yOff_inb (s : Fin 4) (c : Dev nD) : ∀ a, yOff s c a + S1024x512.size a ≤ S4096x512.size a := by
  revert s c; decide

theorem off1_0 : ∀ c : Dev nD, k0_off1 c 1#32 = wOff 0 c := by decide +kernel
theorem off1_1 : ∀ c : Dev nD, k0_off1 c 2#32 = wOff 1 c := by decide +kernel
theorem off1_2 : ∀ c : Dev nD, k0_off1 c 3#32 = wOff 2 c := by decide +kernel
theorem off1_3 : ∀ c : Dev nD, k0_off1 c 4#32 = wOff 3 c := by decide +kernel
theorem off3_0 : ∀ c : Dev nD, k0_off3 c 0#32 0#32 0#32 = yOff 0 c := by decide +kernel
theorem off3_1 : ∀ c : Dev nD, k0_off3 c 1#32 1#32 1#32 = yOff 1 c := by decide +kernel
theorem off3_2 : ∀ c : Dev nD, k0_off3 c 2#32 2#32 2#32 = yOff 2 c := by decide +kernel
theorem off2_3 : ∀ c : Dev nD, k0_off2 c = yOff 3 c := by decide +kernel

theorem dev1_eq : ∀ c : Dev nD, (⟨k0_dev1 c, k0_dev1_lt c⟩ : Dev nD) = peer (greet 0 c) c := by decide +kernel
theorem dev2_eq : ∀ c : Dev nD, (⟨k0_dev2 c, k0_dev2_lt c⟩ : Dev nD) = peer (greet 1 c) c := by decide +kernel
theorem dev3_eq : ∀ c : Dev nD, (⟨k0_dev3 c, k0_dev3_lt c⟩ : Dev nD) = peer (greet 2 c) c := by decide +kernel
theorem dev4_eq : ∀ c : Dev nD, (⟨k0_dev4 c, k0_dev4_lt c⟩ : Dev nD) = peer 0 c := by decide +kernel
theorem dev5_eq : ∀ c : Dev nD, (⟨k0_dev5 c, k0_dev5_lt c⟩ : Dev nD) = peer 0 c := by decide +kernel
theorem dev6_eq : ∀ c : Dev nD, (⟨k0_dev6 c, k0_dev6_lt c⟩ : Dev nD) = peer 0 c := by decide +kernel
theorem dev7_eq : ∀ c : Dev nD, (⟨k0_dev7 c, k0_dev7_lt c⟩ : Dev nD) = peer 0 c := by decide +kernel
theorem dev8_eq : ∀ c : Dev nD, (⟨k0_dev8 c, k0_dev8_lt c⟩ : Dev nD) = peer 1 c := by decide +kernel
theorem dev9_eq : ∀ c : Dev nD, (⟨k0_dev9 c, k0_dev9_lt c⟩ : Dev nD) = peer 1 c := by decide +kernel
theorem dev10_eq : ∀ c : Dev nD, (⟨k0_dev10 c, k0_dev10_lt c⟩ : Dev nD) = peer 1 c := by decide +kernel
theorem dev11_eq : ∀ c : Dev nD, (⟨k0_dev11 c, k0_dev11_lt c⟩ : Dev nD) = peer 1 c := by decide +kernel
theorem dev12_eq : ∀ c : Dev nD, (⟨k0_dev12 c, k0_dev12_lt c⟩ : Dev nD) = peer 2 c := by decide +kernel
theorem dev13_eq : ∀ c : Dev nD, (⟨k0_dev13 c, k0_dev13_lt c⟩ : Dev nD) = peer 2 c := by decide +kernel
theorem dev14_eq : ∀ c : Dev nD, (⟨k0_dev14 c, k0_dev14_lt c⟩ : Dev nD) = peer 2 c := by decide +kernel
theorem dev15_eq : ∀ c : Dev nD, (⟨k0_dev15 c, k0_dev15_lt c⟩ : Dev nD) = peer 2 c := by decide +kernel

/-! ## The body over them -/

abbrev wGo (p : Fin 2) (s : Fin 4) (c : Dev nD) : P F PUnit := wStart p (wOff s c) (wOff_inb s c)
abbrev wGet (p : Fin 2) (s : Fin 4) (c : Dev nD) : P F PUnit := wWait p (wOff s c) (wOff_inb s c)
abbrev oGo (s : Fin 4) (c : Dev nD) : P F PUnit := oStart s (yOff s c) (yOff_inb s c)
abbrev oGet (s : Fin 4) (c : Dev nD) : P F PUnit := oWait s (yOff s c) (yOff_inb s c)

def hello (c : Dev nD) : P F PUnit := do
  xStart 0 0
  wGo 0 0 c
  xStart 1 1
  wGo 1 1 c
  semSignalWord (peer (greet 0 c) c) barrier0 1#32
  semSignalWord (peer (greet 1 c) c) barrier0 1#32
  semSignalWord (peer (greet 2 c) c) barrier0 1#32
  semWaitWord barrier0 3#32

def part0 (c : Dev nD) : P F PUnit := do
  wGet 0 0 c; wCast 0; wGo 0 2 c
  first (peer 0 c) 0 0 (xStart 0 2)
  first (peer 0 c) 1 1 (xStart 1 3)
  first (peer 0 c) 0 2 (pure ⟨⟩)
  first (peer 0 c) 1 3 (pure ⟨⟩)

def pushes (p : Fin 2) (s : Fin 3) (c : Dev nD) : P F PUnit :=
  sends p s (peer s c) (peer s c) (peer s c) (peer s c)

def part1 (c : Dev nD) : P F PUnit := do
  wGet 1 1 c; wCast 1; wGo 1 3 c; pushes 1 1 c

def part2 (c : Dev nD) : P F PUnit := do
  wGet 0 2 c; wCast 0; pushes 0 2 c

def part3 (c : Dev nD) : P F PUnit := do
  wGet 1 3 c; wCast 1
  mulKeep 1 0; mulKeep 1 1; mulKeep 1 2; mulKeep 1 3
  oGo 3 c

def takeSlot (s : Fin 3) (c : Dev nD) : P F PUnit := takeAll s (yOff s.castSucc c) (yOff_inb _ c)

def leaves (s : Fin 3) : P F PUnit := do sendWait s 0; sendWait s 1; sendWait s 2; sendWait s 3

def goodbye (c : Dev nD) : P F PUnit := do
  leaves 0; leaves 1; leaves 2
  oGet 0 c; oGet 1 c; oGet 2 c; oGet 3 c

def run (c : Dev nD) : P F PUnit := do
  hello c; part0 c; part1 c; part2 c; part3 c
  takeSlot 0 c; takeSlot 1 c; takeSlot 2 c
  goodbye c

theorem blocks_eq (c : Dev nD) : blocks (F := F) c = run c := by
  unfold blocks run opening hello step0 part0 step1 part1 step2 part2 step3 part3 takeSlot closing goodbye leaves pushes
  simp only [off1_0, off1_1, off1_2, off1_3, off3_0, off3_1, off3_2, off2_3, dev1_eq, dev2_eq, dev3_eq, dev4_eq, dev5_eq,
    dev6_eq, dev7_eq, dev8_eq, dev9_eq, dev10_eq, dev11_eq, dev12_eq, dev13_eq, dev14_eq, dev15_eq]
  simp only [bind_assoc]
  rfl

theorem body_run (t : Fin cfg0.N) :
    bodyAt0 (F := F) t = (do let c : Dev nD ← Prog.lift .deviceId; run c) := by
  rw [body_eq]; simp only [blocks_eq]

end Cert.KernelIdeal.Run

end
-- ==== Proof.Sched.lean ====
/-
# The protocol: cells, what each delivers, what is owed

Every device has a barrier cell, which its three peers each signal once, handing over the slot of their receive buffer
that this device is to fill; and one receive and one send cell for every chunk of every step. A receive cell is credited
when the peer's chunk lands and delivers the chunk; a send cell is credited when the chunk has been read and delivers the
send chunk back. The local transfers are handled by their own counters and need no cell here.
-/
module

public import proofs.«01_k».proof.Proof.Peers
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Transfers
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig Unit (Elt F) ℕ UU ℕ) := countersEmb

/-! ## The values -/

/-- Contents read through a squeezed memref, as contents of the memref that was squeezed. -/
def unsq {s s' : Shape} {V : Type} (h : s.Squeezes s') (Y : s'.Idx → V) : s.Idx → V :=
  fun j => Y ((Shape.reshapeEquiv h.numel_eq).symm j)

variable (m : (ℓ : Loc nD τ sig) → Buf (Elt F) ℓ)

/-- A device's rows of `x`, and its copy of `w`. -/
def xv (c : Dev nD) : S1024x4096.Idx → Elt F .f32 := m ((c : Thread nD τ).loc main_arg0)
def wv (c : Dev nD) : S4096x2048.Idx → Elt F .f32 := m ((c : Thread nD τ).loc main_arg1)

/-- Rows `256 r …` of them, and the same cast. -/
def xrow (c : Dev nD) (r : Fin 4) : S256x4096.Idx → Elt F .f32 := fun j => xv m c ((xR r).emb j)
def xbf (c : Dev nD) (r : Fin 4) : Vec F S256x4096 .bf16 := castX (unsq squeezes_S1x256x4096_S256x4096 (xrow m c r))
/-- The columns that step `s` computes, and the same cast. -/
def wcol (c : Dev nD) (s : Fin 4) : S4096x512.Idx → Elt F .f32 := fun j => wv m c ((wR (wOff s c) (wOff_inb s c)).emb j)
def wbf (c : Dev nD) (s : Fin 4) : Vec F S1x4096x512 .bf16 := castW (unsq squeezes_S1x4096x512_S4096x512 (wcol m c s))
/-- The chunk that device `c` computes at step `s`, for the wire and for itself. -/
def chunk (c : Dev nD) (s : Fin 4) (r : Fin 4) : Vec F S1x256x512 .bf16 := prodB (xbf m c r) (wbf m c s)
def keep (c : Dev nD) (s : Fin 4) (r : Fin 4) : Vec F S1x256x512 .f32 := prodF (xbf m c r) (wbf m c s)

/-! ## The cells -/

abbrev barCell (c : Dev nD) : GSem nD τ sig := ((c : Thread nD τ), .reg barrier0)
abbrev sendCell (c : Dev nD) (s : Fin 3) (r : Fin 4) : GSem nD τ sig := ((c : Thread nD τ), .dma (ss s r))
abbrev recvCell (c : Dev nD) (s : Fin 3) (r : Fin 4) : GSem nD τ sig := ((c : Thread nD τ), .dma (sr s r))

/-- What a chunk credits. -/
abbrev N : ℕ := (rvM 0 0).view.dmaCredit
theorem N_pos : 0 < N := View.dmaCredit_pos _ (by decide)

/-- The names of a device's cells. -/
abbrev Ck : Type := Unit ⊕ (Fin 3 × Fin 4) ⊕ (Fin 3 × Fin 4)
abbrev csem : Ck → SemLoc sig
  | .inl _ => .reg barrier0
  | .inr (.inl x) => .dma (ss x.1 x.2)
  | .inr (.inr x) => .dma (sr x.1 x.2)
abbrev kcell (ck : Dev nD × Ck) : GSem nD τ sig := ((ck.1 : Thread nD τ), csem ck.2)
abbrev kb : Ck := .inl ()
abbrev ks (s : Fin 3) (r : Fin 4) : Ck := .inr (.inl (s, r))
abbrev kr (s : Fin 3) (r : Fin 4) : Ck := .inr (.inr (s, r))

/-! ## What they deliver -/

/-- Device `e`'s receive chunk, at some contents. -/
def land (e : Dev nD) (s : Fin 3) (r : Fin 4) : sProp 𝕄 :=
  iprop(∃ X : S1x256x512.Idx → Elt F .bf16, owns (e : Thread nD τ) (rvSl s r) fullShare X)
/-- The slot that the peer of step `s` hands over at the barrier. -/
def barPay (c : Dev nD) (s : Fin 3) : sProp 𝕄 := bigSep Finset.univ fun r : Fin 4 => land (peer s c) s r
/-- The chunk that lands. -/
def recvPay (c : Dev nD) (s : Fin 3) (r : Fin 4) : sProp 𝕄 :=
  owns (c : Thread nD τ) (rvSl s r) fullShare (chunk m (peer s c) s.castSucc r)
/-- The send chunk back. -/
def sendPay (c : Dev nD) (s : Fin 3) (r : Fin 4) : sProp 𝕄 :=
  iprop(∃ X : S1x256x512.Idx → Elt F .bf16, owns (c : Thread nD τ) (sdSl s r) fullShare X)

/-- Step and chunk of a send or receive semaphore. -/
def stepOf (i : DmaSem sig) : Fin 3 := ⟨(i.val - 4) / 4 % 3, Nat.mod_lt _ (by decide)⟩
def rowOf (i : DmaSem sig) : Fin 4 := ⟨i.val % 4, Nat.mod_lt _ (by decide)⟩
theorem stepOf_s : ∀ s r, stepOf (ss s r) = s := by decide
theorem stepOf_r : ∀ s r, stepOf (sr s r) = s := by decide
theorem rowOf_s : ∀ s r, rowOf (ss s r) = r := by decide
theorem rowOf_r : ∀ s r, rowOf (sr s r) = r := by decide

def pay (c : Dev nD) (d : Fin 3) : SemLoc sig → sProp 𝕄
  | .reg _ => barPay c d
  | .dma i => if i.val < 16 then sendPay c (stepOf i) (rowOf i) else recvPay m c (stepOf i) (rowOf i)
def dutiesOf : SemLoc sig → Finset (Fin 3)
  | .reg _ => Finset.univ
  | .dma i => if 4 ≤ i.val ∧ i.val < 28 then {0} else ∅
def amountOf : SemLoc sig → ℕ
  | .reg _ => 1
  | .dma _ => N
def levelOf : SemLoc sig → ℕ
  | .reg _ => 1
  | .dma i => if 16 ≤ i.val ∧ i.val < 28 then 2 else 0

instance pay_storable (c : Dev nD) (d : Fin 3) (sm : SemLoc sig) : BI.Storable (upEmb : UEmb _ 𝕄) (pay m c d sm) := by
  unfold pay barPay sendPay recvPay land
  cases sm with
  | reg _ => infer_instance
  | dma i => dsimp only; split <;> infer_instance

def rd : Rounds.Schedule (GSem nD τ sig) (Fin 3) 𝕄 where
  duties g r := if r = 0 ∧ g.1.2 = .tc then dutiesOf g.2 else ∅
  unitless _ := False
  amount g _ _ := amountOf g.2
  payload g _ d := pay m g.1.1 d g.2
  amount_pos g _ _ _ := by
    cases h : g.2 with
    | reg _ => exact Nat.one_pos
    | dma _ => exact N_pos

instance rd_payload_storable (g : GSem nD τ sig) (r : ℕ) (d : Fin 3) :
    BI.Storable (upEmb : UEmb _ 𝕄) ((rd m).payload g r d) := pay_storable m _ _ _

section Tables
variable (c : Dev nD) (s : Fin 3) (r : Fin 4)

theorem dutiesOf_s : ∀ s r, dutiesOf (.dma (ss s r)) = {0} := by decide
theorem dutiesOf_r : ∀ s r, dutiesOf (.dma (sr s r)) = {0} := by decide

theorem duties_zero (sm : SemLoc sig) : (rd m).duties ((c : Thread nD τ), sm) 0 = dutiesOf sm := by
  dsimp only [rd]; exact if_pos ⟨rfl, rfl⟩
theorem duties_bar : (rd m).duties (barCell c) 0 = Finset.univ := duties_zero m c _
theorem duties_send : (rd m).duties (sendCell c s r) 0 = {0} := (duties_zero m c _).trans (dutiesOf_s s r)
theorem duties_recv : (rd m).duties (recvCell c s r) 0 = {0} := (duties_zero m c _).trans (dutiesOf_r s r)
theorem duties_later (g : GSem nD τ sig) : ∀ r, 1 ≤ r → (rd m).duties g r = ∅ :=
  fun r hr => by dsimp only [rd]; exact if_neg fun h => by omega

theorem expect_bar : (rd m).expect (barCell c) 0 = 3 := by
  unfold Schedule.expect Schedule.amountOf; rw [duties_bar]; rfl
theorem expect_send : (rd m).expect (sendCell c s r) 0 = N := by
  unfold Schedule.expect Schedule.amountOf; rw [duties_send, Finset.sum_singleton]; rfl
theorem expect_recv : (rd m).expect (recvCell c s r) 0 = N := by
  unfold Schedule.expect Schedule.amountOf; rw [duties_recv, Finset.sum_singleton]; rfl

theorem payload_bar (d : Fin 3) : (rd m).payload (barCell c) 0 d = barPay c d := rfl
theorem payload_send (d : Fin 3) : (rd m).payload (sendCell c s r) 0 d = sendPay c s r := by
  show (if (ss s r).val < 16 then sendPay c (stepOf (ss s r)) (rowOf (ss s r)) else recvPay m c (stepOf (ss s r)) (rowOf (ss s r))) = _
  rw [if_pos (by revert s r; decide), stepOf_s, rowOf_s]
theorem payload_recv (d : Fin 3) : (rd m).payload (recvCell c s r) 0 d = recvPay m c s r := by
  show (if (sr s r).val < 16 then sendPay c (stepOf (sr s r)) (rowOf (sr s r)) else recvPay m c (stepOf (sr s r)) (rowOf (sr s r))) = _
  rw [if_neg (by revert s r; decide), stepOf_r, rowOf_r]

theorem rest_bar : bigSep ((rd m).duties (barCell c) 0 \ ∅) (fun d => (rd m).payload (barCell c) 0 d)
    = bigSep Finset.univ fun d => barPay (F := F) c d := by
  rw [Finset.sdiff_empty, duties_bar]; rfl
theorem rest_send : bigSep ((rd m).duties (sendCell c s r) 0 \ ∅) (fun d => (rd m).payload (sendCell c s r) 0 d)
    = sendPay (F := F) c s r := by
  rw [Finset.sdiff_empty, duties_send, bigSep_singleton, payload_send]
theorem rest_recv : bigSep ((rd m).duties (recvCell c s r) 0 \ ∅) (fun d => (rd m).payload (recvCell c s r) 0 d)
    = recvPay m c s r := by
  rw [Finset.sdiff_empty, duties_recv, bigSep_singleton, payload_recv]

end Tables

/-! ## What a device owes, and the levels -/

/-- The chunks not yet pushed once `n` have been. -/
def todo (n : ℕ) : Finset (Fin 3 × Fin 4) := Finset.univ.filter fun x => n ≤ 4 * x.1.val + x.2.val
/-- The credits owed for them. -/
def owe (c : Dev nD) (n : ℕ) : CellTallies nD τ sig Unit :=
  ∑ x ∈ todo n, tallyAt (recvCell (peer x.1 c) x.1 x.2) () N
/-- The greetings owed to the peers of the given steps. -/
def oweBar (c : Dev nD) (S : Finset (Fin 3)) : CellTallies nD τ sig Unit := ∑ s ∈ S, tallyAt (barCell (peer s c)) () 1
def O₀ (c : Dev nD) : CellTallies nD τ sig Unit := owe c 0 + oweBar c Finset.univ

theorem todo_step : ∀ (s : Fin 3) (r : Fin 4), todo (4 * s.val + r.val) = insert (s, r) (todo (4 * s.val + r.val + 1))
    ∧ (s, r) ∉ todo (4 * s.val + r.val + 1) := by decide
theorem todo_end : todo 12 = ∅ := by decide
theorem owe_step (c : Dev nD) (s : Fin 3) (r : Fin 4) :
    owe c (4 * s.val + r.val) = owe c (4 * s.val + r.val + 1) + tallyAt (recvCell (peer s c) s r) () N := by
  unfold owe; rw [(todo_step s r).1, Finset.sum_insert (todo_step s r).2, add_comm]
theorem owe_end (c : Dev nD) : owe c 12 = 0 := by unfold owe; rw [todo_end, Finset.sum_empty]
theorem oweBar_step (c : Dev nD) {S : Finset (Fin 3)} {s : Fin 3} (h : s ∈ S) :
    oweBar c S = oweBar c (S.erase s) + tallyAt (barCell (peer s c)) () 1 := by
  unfold oweBar; rw [Finset.sum_erase_add _ _ h]

def L (g : GSem nD τ sig) : Finset Unit := if g.1.2 = .tc then {()} else ∅
def lv (g : GSem nD τ sig) (_ : Unit) : ℕ := levelOf g.2
theorem L_of_ne (g : GSem nD τ sig) (h : g.1.2 ≠ .tc) : L g = ∅ := if_neg h
theorem L_tc (c : Dev nD) (sm : SemLoc sig) : L ((c : Thread nD τ), sm) = {()} := if_pos rfl
theorem level_r : ∀ s r, levelOf (.dma (sr s r)) = 2 := by decide

theorem owe_pos {c : Dev nD} {n : ℕ} {g : GSem nD τ sig} {u : Unit} (h : 0 < owe c n g u) :
    ∃ x : Fin 3 × Fin 4, g = recvCell (peer x.1 c) x.1 x.2 := by
  unfold owe at h
  rw [Finset.sum_apply, Finsupp.finset_sum_apply] at h
  obtain ⟨x, -, hx⟩ := Finset.exists_ne_zero_of_sum_ne_zero (Nat.pos_iff_ne_zero.mp h)
  refine ⟨x, ?_⟩
  by_contra hg
  exact hx (by rw [tallyAt_apply, if_neg fun h' => hg h'.1])
theorem oweBar_pos {c : Dev nD} {S : Finset (Fin 3)} {g : GSem nD τ sig} {u : Unit} (h : 0 < oweBar c S g u) :
    ∃ s, g = barCell (peer s c) := by
  unfold oweBar at h
  rw [Finset.sum_apply, Finsupp.finset_sum_apply] at h
  obtain ⟨x, -, hx⟩ := Finset.exists_ne_zero_of_sum_ne_zero (Nat.pos_iff_ne_zero.mp h)
  refine ⟨x, ?_⟩
  by_contra hg
  exact hx (by rw [tallyAt_apply, if_neg fun h' => hg h'.1])

/-- A wait at a level below a receive cell's is allowed while chunks are owed. -/
theorem mayWait_owe (c : Dev nD) (sm : SemLoc sig) (h : levelOf sm ≤ 1) (n : ℕ) :
    (levAts L lv : sProp 𝕄) ⊢ MayWait (c : Thread nD τ) sm () (owe c n) :=
  MayOwe.of_cut (L := L) (lev := lv) 1 (fun p hp => by rw [Finset.mem_singleton.mp hp, L_tc]; exact Finset.mem_singleton_self _)
    (fun g u hg => by obtain ⟨x, rfl⟩ := owe_pos hg; exact Finset.mem_singleton_self _)
    (fun p hp => by rw [Finset.mem_singleton.mp hp]; exact h)
    (fun g u hg => by obtain ⟨x, rfl⟩ := owe_pos hg; show 1 < levelOf _; rw [level_r]; decide)

/-! ## What every device may use at any time -/

variable (K : Dev nD × Ck → ℕ)

/-- Every cell's invariant, that every cell has reached its round, and the levels. -/
def Ctx : sProp 𝕄 :=
  iprop((bigSep Finset.univ fun ck : Dev nD × Ck => cellInv ER (rd m) (K ck) (kcell ck))
    ∗ (bigSep Finset.univ fun ck : Dev nD × Ck => reached ER (kcell ck) 0) ∗ levAts L lv)
instance Ctx_persistent : BI.Persistent (Ctx m K) := by unfold Ctx; infer_instance

theorem ctx_inv (ck : Dev nD × Ck) : Ctx m K ⊢ cellInv ER (rd m) (K ck) (kcell ck) :=
  (show Ctx m K ⊢ bigSep Finset.univ fun ck : Dev nD × Ck => cellInv ER (rd m) (K ck) (kcell ck) from by
    unfold Ctx; iintro ⟨H, -, -⟩; iexact H).trans (bigSep_elim (Finset.mem_univ ck))
theorem ctx_reached (ck : Dev nD × Ck) : Ctx m K ⊢ reached ER (kcell ck) 0 :=
  (show Ctx m K ⊢ bigSep Finset.univ fun ck : Dev nD × Ck => reached ER (kcell ck) 0 from by
    unfold Ctx; iintro ⟨-, H, -⟩; iexact H).trans (bigSep_elim (Finset.mem_univ ck))
theorem ctx_lev : Ctx m K ⊢ levAts L lv := by
  unfold Ctx; iintro ⟨-, -, H⟩; iexact H

end Cert.KernelIdeal.Run

end
-- ==== Proof.Steps.lean ====
/-
# What one block does

Every block of the body as a statement of what it takes and what it leaves, at symbolic device, step, slot and chunk:
first the four general ones (load, store, local copy, local wait) over any memref, then the body's own.
-/
module

public import proofs.«01_k».proof.Proof.Sched

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-! ## Statements about a block -/

/-- The weakest precondition of a program of device `c`. -/
abbrev W (p : P F PUnit) (Q : PUnit → sProp 𝕄) : sProp 𝕄 :=
  wp frame (wpE (defs₀ (F := F)) Variants.none (c : Thread nD τ) none) Set.univ p Q

/-- From `A`, block `p` of device `c` leaves `B`. -/
def T (A : sProp 𝕄) (p : P F PUnit) (B : sProp 𝕄) : Prop := iprop(Ctx m K ∗ A) ⊢ W c p fun _ => B

variable {m K c}

/-- A block in front of the rest. -/
theorem T.use {A B : sProp 𝕄} {p : P F PUnit} (h : T m K c A p B) {k : PUnit → P F PUnit} {Q : PUnit → sProp 𝕄} :
    iprop(Ctx m K ∗ A) ⊢ iprop((B -∗ W c (k ⟨⟩) Q) -∗ W c (p >>= k) Q) := by
  refine BIClass.wand_intro ?_
  unfold W
  rw [wp_bind]
  exact (sep_mono_left h).trans ((wp_frame_r _ _ _).trans (wp_mono _ _ _ fun _ => wand_elim_right))

/-- The last block. -/
theorem T.last {A B : sProp 𝕄} {p : P F PUnit} (h : T m K c A p B) {Q : sProp 𝕄} :
    iprop(Ctx m K ∗ A) ⊢ iprop((B -∗ Q) -∗ W c p fun _ => Q) :=
  BIClass.wand_intro ((sep_mono_left h).trans ((wp_frame_r _ _ _).trans (wp_mono _ _ _ fun _ => wand_elim_right)))

theorem T.conseq {A A' B B' : sProp 𝕄} {p : P F PUnit} (h : T m K c A p B) (hA : A' ⊢ A) (hB : B ⊢ B') : T m K c A' p B' :=
  (sep_mono_right hA).trans (BIBase.Entails.trans h (wp_mono _ _ _ fun _ => hB))

theorem T.skip {A : sProp 𝕄} : T m K c A (pure ⟨⟩) A := by
  unfold T W
  iintro ⟨-, H⟩
  rw [Prog.pure_eq_ret, wp_ret]; imodintro; iexact H

/-! ## Squeezed memrefs -/

omit [FloatOps F] in
/-- A squeezed memref is owned as the memref that was squeezed. -/
theorem owns_squeeze (e' : Dev nD) {sp : Space} {s s' : Shape} {e : EltTy} (M : Memref sig .tc sp s e) (h : s.Squeezes s') (q : PosShare TreeShare)
    (Y : s'.Idx → Elt F e) :
    (owns (e' : Thread nD τ) (M.squeeze s' h) q Y : sProp 𝕄) = owns (e' : Thread nD τ) M q (unsq h Y) := by
  have key (f : M.view.ty.Contents (Elt F)) : (M.squeeze s' h).view.read (Elt F) f = Y ↔ M.view.read (Elt F) f = unsq h Y := by
    have e1 : (M.squeeze s' h).view.read (Elt F) f = fun j => M.view.read (Elt F) f (Shape.reshapeEquiv h.numel_eq j) := rfl
    rw [e1]
    constructor
    · intro hY; funext j; subst hY; simp only [unsq, Equiv.apply_symm_apply]
    · intro hY; funext j; rw [hY]; simp only [unsq, Equiv.symm_apply_apply]
  have hs : (M.squeeze s' h).view.set = M.view.set := View.set_reshape _ _
  unfold owns
  refine BI.Entails.antisymm (BIBase.Entails.trans (Q := iprop(∃ f, ⌜M.view.read (Elt F) f = unsq h Y⌝ ∗ (M.view.loc (e' : Thread nD τ) ↦[M.view.set]{q} f))) ?_ .rfl) (BIBase.Entails.trans (Q := iprop(∃ f, ⌜(M.squeeze s' h).view.read (Elt F) f = Y⌝ ∗ ((M.squeeze s' h).view.loc (e' : Thread nD τ) ↦[(M.squeeze s' h).view.set]{q} f))) ?_ .rfl)
  · iintro ⟨%f, %hf, H⟩
    iexists f
    isplitr; · ipureintro; exact (key f).mp hf
    rw [← hs]; iexact H
  · iintro ⟨%f, %hf, H⟩
    iexists f
    isplitr; · ipureintro; exact (key f).mpr hf
    rw [hs]; iexact H

omit [FloatOps F] in
/-- A memref that is squeezed to another: the contents read through that. -/
theorem owns_unsqueeze (e' : Dev nD) {sp : Space} {s s' : Shape} {e : EltTy} (M : Memref sig .tc sp s e) (h : s.Squeezes s') (q : PosShare TreeShare)
    (X : s.Idx → Elt F e) :
    (owns (e' : Thread nD τ) M q X : sProp 𝕄)
      = owns (e' : Thread nD τ) (M.squeeze s' h) q fun j => X (Shape.reshapeEquiv h.numel_eq j) := by
  rw [owns_squeeze]; congr 1; funext j; simp only [unsq, Equiv.apply_symm_apply]

omit [FloatOps F] in
theorem some_squeeze (e' : Dev nD) {sp : Space} {s s' : Shape} {e : EltTy} (M : Memref sig .tc sp s e) (h : s.Squeezes s') :
    (iprop(∃ X, owns (e' : Thread nD τ) M fullShare X) : sProp 𝕄) ⊢ iprop(∃ Y, owns (e' : Thread nD τ) (M.squeeze s' h) fullShare Y) := by
  iintro ⟨%X, H⟩
  iexists fun j => X (Shape.reshapeEquiv h.numel_eq j)
  rw [← owns_unsqueeze e' M h]; iexact H

/-! ## The general blocks -/

section General

variable {sh : Shape} {e : EltTy}

/-- A load of a slice that is owned. -/
theorem load_owns {M : Memref sig .tc .vmem sh e} {r : Rect sh} (hr : ∀ a, r.stride a = 1) {hl : M.view.LoadsAt r.toLoadRect}
    {q : PosShare TreeShare} {X : r.shape.Idx → Elt F e} {k : (r.shape.Idx → Elt F e) → P F PUnit} {Q : PUnit → sProp 𝕄} :
    (owns (c : Thread nD τ) (M.slice r hr) q X : sProp 𝕄)
      ⊢ iprop((owns (c : Thread nD τ) (M.slice r hr) q X -∗ W c (k X) Q) -∗ W c (Prog.lift (.load M r.toLoadRect hl) >>= k) Q) := by
  unfold W
  simp only [Prog.lift, Prog.bind_op, Prog.bind_ret]
  iintro H Hk
  ihave H' := (show owns (c : Thread nD τ) (M.slice r hr) q X
      ⊢ (iprop(∃ f, ⌜(M.slice r hr).view.read (Elt F) f = X⌝ ∗ ((M.slice r hr).view.loc (c : Thread nD τ) ↦[(M.slice r hr).view.set]{q} f)) : sProp 𝕄) from .rfl) $$ H
  icases H' with ⟨%f, %hf, H⟩
  iapply (wp_load_rect Variants.none (c : Thread nD τ) none Set.univ (m := M) (r := r) (Finset.Subset.refl _)) $$ H
  iintro H
  rw [show (M.access r).read (Elt F) f = X from hf]
  iapply Hk
  unfold owns
  iexists f
  isplitr; · ipureintro; exact hf
  iexact H

/-- A store over a slice that is owned. -/
theorem store_owns {M : Memref sig .tc .vmem sh e} {r : Rect sh} (hr : ∀ a, r.stride a = 1) {w : r.shape.Idx → Elt F e}
    {hx : (M.access r).Stores Finset.univ} {hm : Finset.univ = Finset.univ ∨ ∀ a, r.stride a = 1}
    {X : r.shape.Idx → Elt F e} {Q : sProp 𝕄} :
    (owns (c : Thread nD τ) (M.slice r hr) fullShare X : sProp 𝕄)
      ⊢ iprop((owns (c : Thread nD τ) (M.slice r hr) fullShare w -∗ Q) -∗ W c (Prog.lift (.store M r w Finset.univ hx hm)) fun _ => Q) := by
  unfold W
  simp only [Prog.lift]
  iintro H Hk
  ihave H' := (show owns (c : Thread nD τ) (M.slice r hr) fullShare X
      ⊢ (iprop(∃ f, ⌜(M.slice r hr).view.read (Elt F) f = X⌝ ∗ ((M.slice r hr).view.loc (c : Thread nD τ) ↦[(M.slice r hr).view.set]{fullShare} f)) : sProp 𝕄) from .rfl) $$ H
  icases H' with ⟨%f, -, H⟩
  iapply (wp_store Variants.none (c : Thread nD τ) none Set.univ (m := M) (r := r) (S := (M.access r).set) (View.setOn_subset_set _ _)) $$ H
  iintro H
  rw [wp_ret]; imodintro
  iapply Hk
  unfold owns
  iexists _
  isplitr
  rotate_left
  · iexact H
  · ipureintro; exact View.read_write_univ _ _

/-- A local copy started. -/
theorem copy_t {sp sp' : Space} {src : Memref sig .tc sp sh e} {dstm : Memref sig .tc sp' sh e} {sm : DmaSem sig}
    {hsrc : src.view.WordExact} {hdst : dstm.view.WordExact} {hsem : (DmaTarget.here dstm : DmaTarget nD τ sig (.tc : Proc τ) sp' sh e).Typed sp (.dma sm)}
    (hpos : 0 < dstm.view.dmaCredit) {q : PosShare TreeShare} {X : sh.Idx → Elt F e} :
    T m K c iprop(owns (c : Thread nD τ) src q X ∗ (∃ Y, owns (c : Thread nD τ) dstm fullShare Y) ∗ semVal ((c : Thread nD τ), .dma sm) 0)
      (Prog.lift (.enqueueDma src (.here dstm) (.dma sm) hsrc hdst hsem))
      (Transfers.Flight EC (c : Thread nD τ) (.dma sm) () dstm.view.dmaCredit
        iprop(owns (c : Thread nD τ) dstm fullShare X ∗ owns (c : Thread nD τ) src q X)) := by
  unfold T W
  simp only [Prog.lift]
  iintro ⟨-, Hs, ⟨%Y, Hd⟩, Hv⟩
  ihave Hs' := (show owns (c : Thread nD τ) src q X
      ⊢ (iprop(∃ f, ⌜src.view.read (Elt F) f = X⌝ ∗ (src.view.loc (c : Thread nD τ) ↦[src.view.set]{q} f)) : sProp 𝕄) from .rfl) $$ Hs
  icases Hs' with ⟨%fs, %hfs, Hs⟩
  ihave Hd' := (show owns (c : Thread nD τ) dstm fullShare Y
      ⊢ (iprop(∃ f, ⌜dstm.view.read (Elt F) f = Y⌝ ∗ (dstm.view.loc (c : Thread nD τ) ↦[dstm.view.set]{fullShare} f)) : sProp 𝕄) from .rfl) $$ Hd
  icases Hd' with ⟨%fd, -, Hd⟩
  iapply (Transfers.wp_dmaLocal EC Variants.none (c : Thread nD τ) none (src := src) (dst := dstm) (fs := fs) (fd := fd)
    () dstm.view.dmaCredit rfl hpos (Finset.Subset.refl _)) $$ [Hs Hd Hv]
  · isplitl [Hs]; · iexact Hs
    isplitl [Hd] <;> iassumption
  iintro HF
  rw [wp_ret]; imodintro
  iapply (Transfers.Flight_mono EC (c : Thread nD τ) ?_) $$ HF
  iintro ⟨Hd, Hs⟩
  unfold owns
  isplitl [Hd]
  · iexists _
    isplitr
    rotate_left
    · iexact Hd
    · ipureintro; rw [View.read_write_univ]; exact hfs
  · iexists _
    isplitr
    rotate_left
    · iexact Hs
    · ipureintro; exact hfs

variable (c) in
/-- What device `c` owes once it has pushed `n` chunks. -/
def OW (n : ℕ) : sProp 𝕄 := iprop(∃ W, owes (c : Thread nD τ) (owe c n) W)

/-- A local copy waited for. -/
theorem wait_t {sp sp' : Space} {s' : Shape} {e' : EltTy} {src : Memref sig .tc sp' s' e'} {dstm : Memref sig .tc sp sh e} {sm : DmaSem sig}
    {hsrc : src.view.WordExact} {hdst : dstm.view.WordExact} {D : sProp 𝕄} {n : ℕ} (hlev : levelOf (.dma sm : SemLoc sig) ≤ 1) :
    T m K c iprop(Transfers.Flight EC (c : Thread nD τ) (.dma sm) () dstm.view.dmaCredit D ∗ OW c n)
      (Prog.lift (.waitDma2 sm src dstm hsrc hdst))
      iprop(D ∗ semVal ((c : Thread nD τ), .dma sm) 0 ∗ OW c n) := by
  unfold T W OW
  simp only [Prog.lift]
  iintro ⟨#HC, HF, %Ws, HO⟩
  iapply (Transfers.wp_waitLocalO EC Variants.none (c : Thread nD τ) none () rfl) $$ [HF HO]
  · isplitl [HF]; · iexact HF
    isplitl [HO]; · iexact HO
    iapply (mayWait_owe c _ hlev n); iapply (ctx_lev m K); iexact HC
  iintro ⟨HD, Hv, HO⟩
  rw [wp_ret]; imodintro
  isplitl [HD]; · iexact HD
  isplitl [Hv]; · iexact Hv
  iexists _; iexact HO

end General

end Cert.KernelIdeal.Run

end
-- ==== Proof.Triples.lean ====
/-
# The blocks of the body

What each block of the body takes and what it leaves: a copy of `x` rows or `w` columns into a staging slot, the cast of
what has landed, a product put into a send chunk and pushed, a chunk received and widened, a stage slot written out.
-/
module

public import proofs.«01_k».proof.Proof.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-! ## Holdings -/

/-- A memref at some contents. -/
abbrev some_ {sp : Space} {sh : Shape} {e : EltTy} (M : Memref sig .tc sp sh e) : sProp 𝕄 :=
  iprop(∃ X, owns (c : Thread nD τ) M fullShare X)

def xsrc (r : Fin 4) : sProp 𝕄 := owns (c : Thread nD τ) (xSrc r) fullShare (xrow m c r)
def xfree (p : Fin 2) : sProp 𝕄 := iprop(some_ c (xfSl p) ∗ semVal ((c : Thread nD τ), .dma (sx p)) 0)
def xgot (p : Fin 2) (r : Fin 4) : sProp 𝕄 :=
  iprop(owns (c : Thread nD τ) (xDst p) fullShare (xrow m c r) ∗ semVal ((c : Thread nD τ), .dma (sx p)) 0)
def xfly (p : Fin 2) (r : Fin 4) : sProp 𝕄 :=
  Transfers.Flight EC (c : Thread nD τ) (.dma (sx p)) () (xDst p).view.dmaCredit
    iprop(owns (c : Thread nD τ) (xDst p) fullShare (xrow m c r) ∗ xsrc m c r)
def xnew (r : Fin 4) : sProp 𝕄 := owns (c : Thread nD τ) (xbSl r) fullShare (xbf m c r)

def wsrc (s : Fin 4) : sProp 𝕄 := owns (c : Thread nD τ) (wSrc (wOff s c) (wOff_inb s c)) fullShare (wcol m c s)
def wfree (p : Fin 2) : sProp 𝕄 := iprop(some_ c (wfSl p) ∗ semVal ((c : Thread nD τ), .dma (sw p)) 0)
def wgot (p : Fin 2) (s : Fin 4) : sProp 𝕄 :=
  iprop(owns (c : Thread nD τ) (wDst p) fullShare (wcol m c s) ∗ semVal ((c : Thread nD τ), .dma (sw p)) 0)
def wfly (p : Fin 2) (s : Fin 4) : sProp 𝕄 :=
  Transfers.Flight EC (c : Thread nD τ) (.dma (sw p)) () (wDst p).view.dmaCredit
    iprop(owns (c : Thread nD τ) (wDst p) fullShare (wcol m c s) ∗ wsrc m c s)
def wnew (p : Fin 2) (s : Fin 4) : sProp 𝕄 := owns (c : Thread nD τ) (wbSl p) fullShare (wbf m c s)

def sendNew (s : Fin 3) (r : Fin 4) : sProp 𝕄 := owns (c : Thread nD τ) (sdSl s r) fullShare (chunk m c s.castSucc r)
def pushTok (s : Fin 3) (r : Fin 4) : sProp 𝕄 :=
  iprop(dutyTok ER (sendCell c s r) 0 (0 : Fin 3) ∗ dutyTok ER (recvCell (peer s c) s r) 0 (0 : Fin 3))
def sendCred (s : Fin 3) (r : Fin 4) : sProp 𝕄 := cred (tallyAt (sendCell c s r) () N)
def recvTok (s : Fin 3) (r : Fin 4) : sProp 𝕄 :=
  iprop(atPos ER (recvCell c s r) 0 ∅ 0 ∗ cred (tallyAt (recvCell c s r) () N))

/-- Chunk `r` of the rows that slot `s` of the stage holds: what the peer of step `s` has computed for this device, or this
    device's own. -/
def part (s r : Fin 4) : Vec F S1x256x512 .f32 := if s = 3 then keep m c s r else wide (chunk m (dst s c) s r)
def onew (s r : Fin 4) : sProp 𝕄 := owns (c : Thread nD τ) (oSl s r) fullShare (part m c s r)

/-! ## Copies in, and casts -/

variable {m K c}

theorem xStart_t (p : Fin 2) (r : Fin 4) : T m K c iprop(xsrc m c r ∗ xfree c p) (xStart p r) (xfly m c p r) :=
  (copy_t (src := xSrc r) (dstm := xDst p) (View.dmaCredit_pos _ (by decide))).conseq
    (sep_mono_right (sep_mono_left (some_squeeze c (xfSl p) squeezes_S1x256x4096_S256x4096))) .rfl

theorem xWait_t (p : Fin 2) (r : Fin 4) (n : ℕ) :
    T m K c iprop(xfly m c p r ∗ OW c n) (xWait p r) iprop(xgot m c p r ∗ xsrc m c r ∗ OW c n) :=
  (wait_t (n := n) (by revert p; decide)).conseq .rfl (by
    unfold xgot; iintro ⟨⟨Hd, Hs⟩, Hv, HO⟩
    isplitl [Hd Hv]; · isplitl [Hd] <;> iassumption
    isplitl [Hs] <;> iassumption)

theorem xCast_t (p : Fin 2) (r : Fin 4) :
    T m K c iprop(xgot m c p r ∗ some_ c (xbSl r)) (xCast p r) iprop(xfree c p ∗ xnew m c r) := by
  unfold T xgot xCast
  rw [owns_squeeze]
  iintro ⟨-, ⟨Hd, Hv⟩, %Y, Hb⟩
  iapply (load_owns (M := mxf) (r := xfR p) fun _ => rfl) $$ Hd; iintro Hd
  iapply (load_owns (M := mxb) (r := xR r) fun _ => rfl) $$ Hb; iintro Hb
  iapply (store_owns (M := mxb) (r := xR r) fun _ => rfl) $$ Hb; iintro Hb
  unfold xfree xnew xbf
  isplitl [Hd Hv]
  · isplitl [Hd]; · iexists _; iexact Hd
    iexact Hv
  iexact Hb

theorem wGo_t (p : Fin 2) (s : Fin 4) : T m K c iprop(wsrc m c s ∗ wfree c p) (wGo p s c) (wfly m c p s) :=
  (copy_t (src := wSrc (wOff s c) (wOff_inb s c)) (dstm := wDst p) (View.dmaCredit_pos _ (by decide))).conseq
    (sep_mono_right (sep_mono_left (some_squeeze c (wfSl p) squeezes_S1x4096x512_S4096x512))) .rfl

theorem wGet_t (p : Fin 2) (s : Fin 4) (n : ℕ) :
    T m K c iprop(wfly m c p s ∗ OW c n) (wGet p s c) iprop(wgot m c p s ∗ wsrc m c s ∗ OW c n) :=
  (wait_t (n := n) (by revert p; decide)).conseq .rfl (by
    unfold wgot; iintro ⟨⟨Hd, Hs⟩, Hv, HO⟩
    isplitl [Hd Hv]; · isplitl [Hd] <;> iassumption
    isplitl [Hs] <;> iassumption)

theorem wCast_t (p : Fin 2) (s : Fin 4) :
    T m K c iprop(wgot m c p s ∗ some_ c (wbSl p)) (wCast p) iprop(wfree c p ∗ wnew m c p s) := by
  unfold T wgot wCast
  rw [owns_squeeze]
  iintro ⟨-, ⟨Hd, Hv⟩, %Y, Hb⟩
  iapply (load_owns (M := mwf) (r := wfR p) fun _ => rfl) $$ Hd; iintro Hd
  iapply (load_owns (M := mwb) (r := wfR p) fun _ => rfl) $$ Hb; iintro Hb
  iapply (store_owns (M := mwb) (r := wfR p) fun _ => rfl) $$ Hb; iintro Hb
  unfold wfree wnew wbf
  isplitl [Hd Hv]
  · isplitl [Hd]; · iexists _; iexact Hd
    iexact Hv
  iexact Hb

/-! ## Products -/

theorem mulSend_t (p : Fin 2) (s : Fin 3) (r : Fin 4) :
    T m K c iprop(xnew m c r ∗ wnew m c p s.castSucc ∗ sendPay c s r) (mulSend p s r)
      iprop(xnew m c r ∗ wnew m c p s.castSucc ∗ sendNew m c s r) := by
  unfold T xnew wnew sendPay sendNew mulSend
  iintro ⟨-, Hx, Hw, %Y, Hb⟩
  iapply (load_owns (M := mxb) (r := xR r) fun _ => rfl) $$ Hx; iintro Hx
  iapply (load_owns (M := mwb) (r := wfR p) fun _ => rfl) $$ Hw; iintro Hw
  iapply (load_owns (M := msd) (r := cR s r) fun _ => rfl) $$ Hb; iintro Hb
  iapply (store_owns (M := msd) (r := cR s r) fun _ => rfl) $$ Hb; iintro Hb
  isplitl [Hx]; · iexact Hx
  isplitl [Hw]; · iexact Hw
  iexact Hb

theorem mulKeep_t (p : Fin 2) (r : Fin 4) :
    T m K c iprop(xnew m c r ∗ wnew m c p 3 ∗ some_ c (oSl 3 r)) (mulKeep p r)
      iprop(xnew m c r ∗ wnew m c p 3 ∗ onew m c 3 r) := by
  unfold T xnew wnew onew mulKeep
  rw [show part m c 3 r = keep m c 3 r from if_pos rfl]
  iintro ⟨-, Hx, Hw, %Y, Hb⟩
  iapply (load_owns (M := mxb) (r := xR r) fun _ => rfl) $$ Hx; iintro Hx
  iapply (load_owns (M := mwb) (r := wfR p) fun _ => rfl) $$ Hw; iintro Hw
  iapply (load_owns (M := mo) (r := oR 3 r) fun _ => rfl) $$ Hb; iintro Hb
  iapply (store_owns (M := mo) (r := oR 3 r) fun _ => rfl) $$ Hb; iintro Hb
  isplitl [Hx]; · iexact Hx
  isplitl [Hw]; · iexact Hw
  iexact Hb

theorem widen_t (s : Fin 3) (r : Fin 4) :
    T m K c iprop(recvPay m c s r ∗ some_ c (oSl s.castSucc r)) (widen s r)
      iprop(land c s r ∗ onew m c s.castSucc r) := by
  unfold T recvPay land onew widen
  rw [show part m c s.castSucc r = wide (chunk m (peer s c) s.castSucc r) from if_neg (by revert s; decide)]
  iintro ⟨-, Hx, %Y, Hb⟩
  iapply (load_owns (M := mrv) (r := cR s r) fun _ => rfl) $$ Hx; iintro Hx
  iapply (load_owns (M := mo) (r := oR s.castSucc r) fun _ => rfl) $$ Hb; iintro Hb
  iapply (store_owns (M := mo) (r := oR s.castSucc r) fun _ => rfl) $$ Hb; iintro Hb
  isplitl [Hx]; · iexists _; iexact Hx
  iexact Hb

/-! ## A push, and the two waits for it -/

omit [FloatOps F] in
theorem amount_view (s : Fin 3) (r : Fin 4) : (rvM s r).view.amount (.dma (sr s r)) = N := rfl
/-- A transfer to device `d`, both memrefs owned. -/
theorem send_owns {sh : Shape} {e : EltTy} {src dstm : Memref sig .tc .vmem sh e} {sS sm : DmaSem sig} (d : Dev nD) {κ₁ κ₂ : ℕ}
    {hsc : dstm.view.ref.isScScratch = false} {hsrc : src.view.WordExact} {hdst : dstm.view.WordExact}
    {hsem : DmaTarget.Typed .vmem (.dma sm) (.remote (d : Thread nD τ) dstm (.dma sS) hsc)}
    {X : sh.Idx → Elt F e} (hd₁ : (0 : Fin 3) ∈ (rd m).duties ((c : Thread nD τ), .dma sS) 0)
    (hd₂ : (0 : Fin 3) ∈ (rd m).duties ((d : Thread nD τ), .dma sm) 0) (hN : dstm.view.amount (.dma sm) = N)
    (O₁ O₂ : CellTallies nD τ sig Unit) (hO : O₁ = O₂ + tallyAt ((d : Thread nD τ), .dma sm) () N)
    (hp₁ : (owns (c : Thread nD τ) src fullShare X : sProp 𝕄) ⊢ (rd m).payload ((c : Thread nD τ), .dma sS) 0 0)
    (hp₂ : (owns (d : Thread nD τ) dstm fullShare X : sProp 𝕄) ⊢ (rd m).payload ((d : Thread nD τ), .dma sm) 0 0)
    {k : PUnit → P F PUnit} {Q : PUnit → sProp 𝕄} {Ws : Waits sig Unit} :
    iprop(cellInv ER (rd m) κ₁ ((c : Thread nD τ), .dma sS) ∗ cellInv ER (rd m) κ₂ ((d : Thread nD τ), .dma sm)
        ∗ owns (c : Thread nD τ) src fullShare X ∗ (∃ Y, owns (d : Thread nD τ) dstm fullShare Y) ∗ owes (c : Thread nD τ) O₁ Ws
        ∗ dutyTok ER ((c : Thread nD τ), .dma sS) 0 (0 : Fin 3) ∗ reached ER ((c : Thread nD τ), .dma sS) 0
        ∗ dutyTok ER ((d : Thread nD τ), .dma sm) 0 (0 : Fin 3) ∗ reached ER ((d : Thread nD τ), .dma sm) 0)
      ⊢ iprop(((cred (tallyAt ((c : Thread nD τ), .dma sS) () N) ∗ owes (c : Thread nD τ) O₂ Ws) -∗ W c (k ⟨⟩) Q)
          -∗ W c (.op (.enqueueDma src (.remote (d : Thread nD τ) dstm (.dma sS) hsc) (.dma sm) hsrc hdst hsem) k) Q) := by
  iintro ⟨H1, H2, Hs, ⟨%Y, Hd⟩, Hr⟩
  ihave Hs' := (show owns (c : Thread nD τ) src fullShare X
      ⊢ (iprop(∃ f, ⌜src.view.read (Elt F) f = X⌝ ∗ (src.view.loc (c : Thread nD τ) ↦[src.view.set]{fullShare} f)) : sProp 𝕄) from .rfl) $$ Hs
  icases Hs' with ⟨%fs, %hfs, Hs⟩
  ihave Hd' := (show owns (d : Thread nD τ) dstm fullShare Y
      ⊢ (iprop(∃ f, ⌜dstm.view.read (Elt F) f = Y⌝ ∗ (dstm.view.loc (d : Thread nD τ) ↦[dstm.view.set]{fullShare} f)) : sProp 𝕄) from .rfl) $$ Hd
  icases Hd' with ⟨%fd, -, Hd⟩
  subst hfs
  have hq₁ := (owns_intro (c : Thread nD τ) src fullShare fs).trans hp₁
  have hq₂ : ((dstm.view.loc (d : Thread nD τ) ↦[dstm.view.set]{fullShare} (dstm.view.write (Elt F) fd (src.view.read (Elt F) fs) Finset.univ)) : sProp 𝕄)
      ⊢ (rd m).payload ((d : Thread nD τ), .dma sm) 0 0 := by
    refine (owns_intro (d : Thread nD τ) dstm fullShare _).trans ?_
    rw [View.read_write_univ]; exact hp₂
  have main := Rounds.wp_send_pointsTo (defs := defs₀ (F := F)) (Γ := .empty) (Q := Q) (k := k) (hsc := hsc) (hsrc := hsrc) (hdst := hdst) (hsem := hsem)
    Variants.none ER (rd m) (c : Thread nD τ) none (κ₁ := κ₁) (κ₂ := κ₂)
    (r₁ := 0) (r₂ := 0) (d₁ := 0) (d₂ := 0) (fs := fs) (fd := fd) hd₁ hd₂ () () N hN rfl rfl O₂ hO (W := Ws) hq₁ hq₂ (Es := Set.univ)
  iapply main
  isplitl [H1]; · iexact H1
  isplitl [H2]; · iexact H2
  isplitl [Hs]; · iexact Hs
  isplitl [Hd]; · iexact Hd
  iexact Hr

theorem push_t (s : Fin 3) (r : Fin 4) :
    T m K c iprop(sendNew m c s r ∗ land (peer s c) s r ∗ pushTok c s r ∗ OW c (4 * s.val + r.val)) (push (peer s c) s r)
      iprop(sendCred c s r ∗ OW c (4 * s.val + r.val + 1)) := by
  unfold T OW pushTok sendCred push
  simp only [Prog.lift]
  have hp₁ : (owns (c : Thread nD τ) (sdM s r) fullShare (fun j => chunk m c s.castSucc r (Shape.reshapeEquiv squeezes_S1x256x512_S256x512.numel_eq j)) : sProp 𝕄)
      ⊢ (rd m).payload (sendCell c s r) 0 0 := by
    rw [payload_send, ← owns_unsqueeze c (sdSl s r) squeezes_S1x256x512_S256x512]; unfold sendPay
    iintro H; iexists _; iexact H
  have hp₂ : (owns (peer s c : Thread nD τ) (rvM s r) fullShare (fun j => chunk m c s.castSucc r (Shape.reshapeEquiv squeezes_S1x256x512_S256x512.numel_eq j)) : sProp 𝕄)
      ⊢ (rd m).payload (recvCell (peer s c) s r) 0 0 := by
    rw [payload_recv, ← owns_unsqueeze (peer s c) (rvSl s r) squeezes_S1x256x512_S256x512]; unfold recvPay
    rw [peer_peer]
  iintro ⟨#HC, Hs, Hd, ⟨Ht1, Ht2⟩, %Ws, HO⟩
  ihave Hs' := (BIBase.Entails.of_eq (show sendNew m c s r = _ from owns_unsqueeze c (sdSl s r) squeezes_S1x256x512_S256x512 _ _)) $$ Hs
  unfold land
  ihave Hd' := (some_squeeze (peer s c) (rvSl s r) squeezes_S1x256x512_S256x512) $$ Hd
  iapply (send_owns (m := m) (c := c) (peer s c) (κ₁ := K (c, ks s r)) (κ₂ := K (peer s c, kr s r))
    (by rw [duties_send]; exact Finset.mem_singleton_self _) (by rw [duties_recv]; exact Finset.mem_singleton_self _)
    (amount_view s r) (owe c (4 * s.val + r.val)) (owe c (4 * s.val + r.val + 1)) (owe_step c s r) hp₁ hp₂) $$ [Hs' Hd' HO Ht1 Ht2]
  · isplitr; · iapply (ctx_inv m K (c, ks s r)); iexact HC
    isplitr; · iapply (ctx_inv m K (peer s c, kr s r)); iexact HC
    isplitl [Hs']; · iexact Hs'
    isplitl [Hd']; · iexact Hd'
    isplitl [HO]; · iexact HO
    isplitl [Ht1]; · iexact Ht1
    isplitr; · iapply (ctx_reached m K (c, ks s r)); iexact HC
    isplitl [Ht2]; · iexact Ht2
    iapply (ctx_reached m K (peer s c, kr s r)); iexact HC
  iintro ⟨Hc, HO⟩
  unfold W
  rw [wp_ret]; imodintro
  isplitl [Hc]; · iexact Hc
  iexists _; iexact HO

theorem recvWait_t (s : Fin 3) (r : Fin 4) :
    T m K c iprop(recvTok c s r ∗ OW c 12) (recvWait s r)
      iprop(recvPay m c s r ∗ semVal (recvCell c s r) 0 ∗ OW c 12) := by
  unfold T W OW recvTok recvWait
  simp only [Prog.lift]
  rw [owe_end]
  iintro ⟨#HC, ⟨Ha, Hc⟩, %Ws, HO⟩
  iapply (Rounds.wp_wait_rest_token Variants.none ER (rd m) (c : Thread nD τ) none (κ := K (c, kr s r))
      (wpE_waitDma2_eq Variants.none (c : Thread nD τ) none Set.univ) (Set.mem_univ _) () (O := 0) (W := Ws) (R := 0) (m := 0) (T := ∅)
      (by rw [Nat.zero_add, expect_recv])) $$ [Hc HO Ha]
  · isplitr; · iapply (ctx_inv m K (c, kr s r)); iexact HC
    isplitl [Hc]; · iexact Hc
    isplitl [HO]; · iexact HO
    isplitr; · rw [MayWait_zero]; iempintro
    iexact Ha
  iintro ⟨HO, Ha, -, Hp⟩
  ihave Hp' := (BIBase.Entails.of_eq (rest_recv m c s r)) $$ Hp
  imod (Rounds.cell_close ER (rd m) (Set.mem_univ (K (c, kr s r))) (fun h => h) (R := 0 + 1) (duties_later m (recvCell c s r))) $$ [Ha] with Hz
  · isplitr; · iapply (ctx_inv m K (c, kr s r)); iexact HC
    iexact Ha
  rw [wp_ret]; imodintro
  isplitl [Hp']; · iexact Hp'
  isplitl [Hz]; · iexact Hz
  iexists _; iexact HO

variable (c) in
def sendTok (s : Fin 3) (r : Fin 4) : sProp 𝕄 := iprop(atPos ER (sendCell c s r) 0 ∅ 0 ∗ sendCred c s r)

theorem sendWait_t (s : Fin 3) (r : Fin 4) :
    T m K c iprop(sendTok c s r ∗ OW c 12) (sendWait s r)
      iprop(sendPay c s r ∗ semVal (sendCell c s r) 0 ∗ OW c 12) := by
  unfold T W OW sendTok sendCred sendWait
  simp only [Prog.lift]
  rw [owe_end]
  iintro ⟨#HC, ⟨Ha, Hc⟩, %Ws, HO⟩
  iapply (Rounds.wp_wait_rest_token Variants.none ER (rd m) (c : Thread nD τ) none (κ := K (c, ks s r))
      (wpE_waitDma2_eq Variants.none (c : Thread nD τ) none Set.univ) (Set.mem_univ _) () (O := 0) (W := Ws) (R := 0) (m := 0) (T := ∅)
      (by rw [Nat.zero_add, expect_send])) $$ [Hc HO Ha]
  · isplitr; · iapply (ctx_inv m K (c, ks s r)); iexact HC
    isplitl [Hc]; · iexact Hc
    isplitl [HO]; · iexact HO
    isplitr; · rw [MayWait_zero]; iempintro
    iexact Ha
  iintro ⟨HO, Ha, -, Hp⟩
  ihave Hp' := (BIBase.Entails.of_eq (rest_send m c s r)) $$ Hp
  imod (Rounds.cell_close ER (rd m) (Set.mem_univ (K (c, ks s r))) (fun h => h) (R := 0 + 1) (duties_later m (sendCell c s r))) $$ [Ha] with Hz
  · isplitr; · iapply (ctx_inv m K (c, ks s r)); iexact HC
    iexact Ha
  rw [wp_ret]; imodintro
  isplitl [Hp']; · iexact Hp'
  isplitl [Hz]; · iexact Hz
  iexists _; iexact HO

/-! ## The barrier -/

variable (c) in
/-- What is owed while the peers of the steps `S` are still to be greeted. -/
def OB (S : Finset (Fin 3)) : sProp 𝕄 := iprop(∃ Ws, owes (c : Thread nD τ) (owe c 0 + oweBar c S) Ws)

variable (c) in
/-- The own receive slot of step `s`, and the right to greet its peer with it. -/
def greeting (s : Fin 3) : sProp 𝕄 :=
  iprop((bigSep Finset.univ fun r : Fin 4 => land c s r) ∗ dutyTok ER (barCell (peer s c)) 0 s)

theorem signal_t {S : Finset (Fin 3)} {s : Fin 3} (hs : s ∈ S) :
    T m K c iprop(greeting c s ∗ OB c S) (semSignalWord (peer s c) barrier0 1#32) (OB c (S.erase s)) := by
  unfold T W OB greeting
  simp only [semSignalWord, Prog.lift]
  iintro ⟨#HC, ⟨Hp, Ht⟩, %Ws, HO⟩
  have hO : owe c 0 + oweBar c S = (owe c 0 + oweBar c (S.erase s)) + tallyAt (barCell (peer s c)) () 1 := by
    rw [oweBar_step c hs, add_assoc]
  iapply (Rounds.wp_signal Variants.none ER (rd m) (c : Thread nD τ) none (dst := (peer s c : Thread nD τ)) (κ := K (peer s c, kb))
      (by rw [duties_bar]; exact Finset.mem_univ s) rfl () (owe c 0 + oweBar c (S.erase s)) hO) $$ [HO Hp Ht]
  · isplitr; · iapply (ctx_inv m K (peer s c, kb)); iexact HC
    isplitl [HO]; · iexact HO
    isplitl [Ht]; · iexact Ht
    isplitl [Hp]
    · rw [payload_bar]; unfold barPay; rw [peer_peer]; iexact Hp
    iapply (ctx_reached m K (peer s c, kb)); iexact HC
  iintro HO
  rw [wp_ret]; imodintro
  iexists _; iexact HO

variable (c) in
def barTok : sProp 𝕄 := iprop(atPos ER (barCell c) 0 ∅ 0 ∗ cred (tallyAt (barCell c) () 3))

theorem barWait_t :
    T m K c iprop(barTok c ∗ OB c ∅) (semWaitWord barrier0 3#32)
      iprop((bigSep Finset.univ fun s : Fin 3 => barPay c s) ∗ semVal (barCell c) 0 ∗ OW c 0) := by
  unfold T W OB OW barTok
  simp only [semWaitWord, Prog.lift]
  rw [show owe c 0 + oweBar c ∅ = owe c 0 from by unfold oweBar; rw [Finset.sum_empty, add_zero]]
  iintro ⟨#HC, ⟨Ha, Hc⟩, %Ws, HO⟩
  iapply (Rounds.wp_wait_rest_token Variants.none ER (rd m) (c : Thread nD τ) none (κ := K (c, kb))
      (wpE_semWait_eq Variants.none (c : Thread nD τ) none Set.univ) (Set.mem_univ _) () (O := owe c 0) (W := Ws) (R := 0) (m := 0) (T := ∅)
      (by rw [Nat.zero_add, expect_bar]; rfl)) $$ [Hc HO Ha]
  · isplitr; · iapply (ctx_inv m K (c, kb)); iexact HC
    isplitl [Hc]; · iexact Hc
    isplitl [HO]; · iexact HO
    isplitr; · iapply (mayWait_owe c (.reg barrier0) (Nat.le_refl 1) 0); iapply (ctx_lev m K); iexact HC
    iexact Ha
  iintro ⟨HO, Ha, -, Hp⟩
  ihave Hp' := (BIBase.Entails.of_eq (rest_bar m c)) $$ Hp
  imod (Rounds.cell_close ER (rd m) (Set.mem_univ (K (c, kb))) (fun h => h) (R := 0 + 1) (duties_later m (barCell c))) $$ [Ha] with Hz
  · isplitr; · iapply (ctx_inv m K (c, kb)); iexact HC
    iexact Ha
  rw [wp_ret]; imodintro
  isplitl [Hp']; · iexact Hp'
  isplitl [Hz]; · iexact Hz
  iexists _; iexact HO

end Cert.KernelIdeal.Run

end
-- ==== Proof.Rects.lean ====
/-
# Buffers cut into the pieces the blocks work on

Each buffer is the disjoint union of its slots, of its chunks, or of the rows or columns that the steps work on: every
index lies in exactly one piece. So owning the buffer is owning its pieces; and a slot of the output stage is its four
chunks.
-/
module

public import proofs.«01_k».proof.Proof.Triples

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of pieces -/

section Family

variable {T : Type} [Fintype T] [DecidableEq T] {sh : Shape} {e : EltTy} (R : T → Rect sh) (hR : ∀ t a, (R t).stride a = 1)
  (tag : sh.Idx → T) (htag : ∀ t k, k ∈ (R t).set ↔ tag k = t)
include htag

omit [Fintype T] in
theorem pieces_disjoint (t t' : T) (h : t ≠ t') : Disjoint (R t).set (R t').set :=
  Finset.disjoint_left.mpr fun k hk hk' => h (((htag t k).mp hk).symm.trans ((htag t' k).mp hk'))

theorem pieces_cover : (Finset.univ : Finset T).biUnion (fun t => (R t).set) = Finset.univ :=
  Finset.eq_univ_iff_forall.mpr fun k => Finset.mem_biUnion.mpr ⟨tag k, Finset.mem_univ _, (htag _ k).mpr rfl⟩

omit [FloatOps F] in
theorem owns_cut (c : Dev nD) {sp : Space} (M : Memref sig .tc sp sh e) (X : sh.Idx → Elt F e) :
    (owns (c : Thread nD τ) M fullShare X : sProp 𝕄)
      ⊢ BI.bigSep Finset.univ fun t => owns (c : Thread nD τ) (M.slice (R t) (hR t)) fullShare fun j => X ((R t).emb j) :=
  owns_rects (c : Thread nD τ) M fullShare R hR (pieces_disjoint R tag htag) (pieces_cover R tag htag) X

theorem owns_glue (c : Dev nD) {sp : Space} (M : Memref sig .tc sp sh e) (X : sh.Idx → Elt F e) :
    BI.bigSep Finset.univ (fun t => owns (c : Thread nD τ) (M.slice (R t) (hR t)) fullShare fun j => X ((R t).emb j))
      ⊢ (owns (c : Thread nD τ) M fullShare X : sProp 𝕄) :=
  owns_of_rects (c : Thread nD τ) M fullShare R hR (pieces_disjoint R tag htag) (pieces_cover R tag htag) X

/-- At contents that need not be known. -/
theorem some_cut (c : Dev nD) {sp : Space} (M : Memref sig .tc sp sh e) :
    (some_ c M : sProp 𝕄) ⊢ BI.bigSep Finset.univ fun t => some_ (F := F) c (M.slice (R t) (hR t)) := by
  iintro ⟨%X, H⟩
  have h (t : T) (_ : t ∈ (Finset.univ : Finset T)) :
      (owns (c : Thread nD τ) (M.slice (R t) (hR t)) fullShare (fun j => X ((R t).emb j)) : sProp 𝕄) ⊢ some_ (F := F) c (M.slice (R t) (hR t)) := by
    iintro H; iexists _; iexact H
  ihave H' := ((owns_cut R hR tag htag c M X).trans (BI.bigSep_mono h)) $$ H
  iexact H'

theorem some_glue (c : Dev nD) {sp : Space} (M : Memref sig .tc sp sh e) :
    BI.bigSep Finset.univ (fun t => some_ (F := F) c (M.slice (R t) (hR t))) ⊢ (some_ c M : sProp 𝕄) := by
  refine (BI.bigSep_exists_pi _ _).trans ?_
  iintro ⟨%X, H⟩
  classical
  have hmem (k : sh.Idx) : ∃ i, (R (tag k)).emb i = k := by
    have := (htag (tag k) k).mpr rfl
    rw [← (R (tag k)).map_emb_univ, Finset.mem_map] at this
    obtain ⟨i, -, hi⟩ := this; exact ⟨i, hi⟩
  have hX (t : T) : X t = fun j => (fun k => X (tag k) (Classical.choose (hmem k)) : sh.Idx → Elt F e) ((R t).emb j) := by
    funext j
    have ht : tag ((R t).emb j) = t :=
      (htag t _).mp (by rw [← (R t).map_emb_univ]; exact Finset.mem_map_of_mem _ (Finset.mem_univ _))
    generalize hk : (R t).emb j = k at ht
    subst ht
    have := Classical.choose_spec (hmem k)
    have e : Classical.choose (hmem k) = j := (R (tag k)).emb.injective (this.trans hk.symm)
    show X (tag k) j = X (tag k) (Classical.choose (hmem k))
    rw [e]
  iexists fun k => X (tag k) (Classical.choose (hmem k))
  iapply (owns_glue R hR tag htag c M _)
  rw [BI.bigSep_congr fun t _ => congrArg (owns (c : Thread nD τ) (M.slice (R t) (hR t)) fullShare) (hX t).symm]
  iexact H

end Family

/-! ## The families -/

theorem xR_tag (r : Fin 4) (k : S1024x4096.Idx) :
    k ∈ (xR r).set ↔ (⟨(k 0).val / 256, by have : (k 0).val < 1024 := (k 0).isLt; omega⟩ : Fin 4) = r := by
  rw [Rect.mem_set_unit, Fin.ext_iff]
  have h1 : (k 1).val < 4096 := (k 1).isLt
  constructor
  · intro h; have h0 := h 0; simp at h0; show (k 0).val / 256 = r.val; omega
  · intro h a
    have h' : (k 0).val / 256 = r.val := h
    fin_cases a
    · simp; omega
    · simp; exact h1

theorem xfR_tag (p : Fin 2) (k : S2x256x4096.Idx) : k ∈ (xfR p).set ↔ (show Fin 2 from k 0) = p := by
  refine Rect.mem_set_unit.trans (Iff.trans ?_ Fin.ext_iff.symm)
  show _ ↔ (k 0).val = p.val
  have h1 : (k 1).val < 256 := (k 1).isLt
  have h2 : (k 2).val < 4096 := (k 2).isLt
  constructor
  · intro h; have h0 := h 0; simp at h0; omega
  · intro h a
    fin_cases a
    · simp; omega
    · simp; exact h1
    · simp; exact h2

theorem wfR_tag (p : Fin 2) (k : S2x4096x512.Idx) : k ∈ (wfR p).set ↔ (show Fin 2 from k 0) = p := by
  refine Rect.mem_set_unit.trans (Iff.trans ?_ Fin.ext_iff.symm)
  show _ ↔ (k 0).val = p.val
  have h1 : (k 1).val < 4096 := (k 1).isLt
  have h2 : (k 2).val < 512 := (k 2).isLt
  constructor
  · intro h; have h0 := h 0; simp at h0; omega
  · intro h a
    fin_cases a
    · simp; omega
    · simp; exact h1
    · simp; exact h2

theorem cR_tag (t : Fin 3 × Fin 4) (k : S3x1024x512.Idx) :
    k ∈ (cR t.1 t.2).set ↔ ((k 0, ⟨(k 1).val / 256, by have : (k 1).val < 1024 := (k 1).isLt; omega⟩) : Fin 3 × Fin 4) = t := by
  obtain ⟨s, r⟩ := t
  rw [Rect.mem_set_unit, Prod.ext_iff, Fin.ext_iff, Fin.ext_iff]
  have h2 : (k 2).val < 512 := (k 2).isLt
  constructor
  · intro h; have h0 := h 0; have h1 := h 1; simp at h0 h1; constructor
    · show (k 0).val = s.val; omega
    · show (k 1).val / 256 = r.val; omega
  · intro h a
    have h' : (k 0).val = s.val ∧ (k 1).val / 256 = r.val := h
    fin_cases a
    · simp; omega
    · simp; omega
    · simp; exact h2

theorem oR_tag (t : Fin 4 × Fin 4) (k : S4x1024x512.Idx) :
    k ∈ (oR t.1 t.2).set ↔ ((k 0, ⟨(k 1).val / 256, by have : (k 1).val < 1024 := (k 1).isLt; omega⟩) : Fin 4 × Fin 4) = t := by
  obtain ⟨s, r⟩ := t
  rw [Rect.mem_set_unit, Prod.ext_iff, Fin.ext_iff, Fin.ext_iff]
  have h2 : (k 2).val < 512 := (k 2).isLt
  constructor
  · intro h; have h0 := h 0; have h1 := h 1; simp at h0 h1; constructor
    · show (k 0).val = s.val; omega
    · show (k 1).val / 256 = r.val; omega
  · intro h a
    have h' : (k 0).val = s.val ∧ (k 1).val / 256 = r.val := h
    fin_cases a
    · simp; omega
    · simp; omega
    · simp; exact h2

theorem osR_tag (s : Fin 4) (k : S4x1024x512.Idx) : k ∈ (osR s).set ↔ (show Fin 4 from k 0) = s := by
  refine Rect.mem_set_unit.trans (Iff.trans ?_ Fin.ext_iff.symm)
  show _ ↔ (k 0).val = s.val
  have h1 : (k 1).val < 1024 := (k 1).isLt
  have h2 : (k 2).val < 512 := (k 2).isLt
  constructor
  · intro h; have h0 := h 0; simp at h0; omega
  · intro h a
    fin_cases a
    · simp; omega
    · simp; exact h1
    · simp; exact h2

/-- The steps of a device, by the device whose columns they compute. -/
def stepEquiv (c : Dev nD) : Fin 4 ≃ Dev nD :=
  Equiv.ofBijective (fun s => dst s c) ((Fintype.bijective_iff_injective_and_card _).mpr ⟨dst_inj c, rfl⟩)

theorem wR_tag (c : Dev nD) (s : Fin 4) (k : S4096x2048.Idx) :
    k ∈ (wR (wOff s c) (wOff_inb s c)).set
      ↔ (stepEquiv c).symm ⟨(k 1).val / 512, by have : (k 1).val < 2048 := (k 1).isLt; show _ < 4; omega⟩ = s := by
  rw [Rect.mem_set_unit, Equiv.symm_apply_eq, Fin.ext_iff]
  show _ ↔ (k 1).val / 512 = (dst s c).val
  have h0 : (k 0).val < 4096 := (k 0).isLt
  constructor
  · intro h; have h1 := h 1; simp at h1; omega
  · intro h a
    fin_cases a
    · simp; exact h0
    · simp; omega

theorem yR_tag (c : Dev nD) (s : Fin 4) (k : S4096x512.Idx) :
    k ∈ (yR (yOff s c) (yOff_inb s c)).set
      ↔ (stepEquiv c).symm ⟨(k 0).val / 1024, by have : (k 0).val < 4096 := (k 0).isLt; show _ < 4; omega⟩ = s := by
  rw [Rect.mem_set_unit, Equiv.symm_apply_eq, Fin.ext_iff]
  show _ ↔ (k 0).val / 1024 = (dst s c).val
  have h0 : (k 1).val < 512 := (k 1).isLt
  constructor
  · intro h; have h1 := h 0; simp at h1; omega
  · intro h a
    fin_cases a
    · simp; omega
    · simp; exact h0

/-! ## A slot of the output stage -/

variable (m : (ℓ : Loc nD τ sig) → Buf (Elt F) ℓ) (c : Dev nD)

/-- The place of an index of the stage within its chunk. -/
def inChunk (k : S4x1024x512.Idx) : S1x256x512.Idx := fun a => match a with
  | 0 => ⟨0, by decide⟩
  | 1 => ⟨(k 1).val % 256, Nat.mod_lt _ (by decide)⟩
  | 2 => k 2
/-- What the stage holds once all its chunks are in. -/
def stageVal (k : S4x1024x512.Idx) : Elt F .f32 :=
  part m c (k 0) ⟨(k 1).val / 256, by have : (k 1).val < 1024 := (k 1).isLt; omega⟩ (inChunk k)

theorem stageVal_chunk (s r : Fin 4) (i : S1x256x512.Idx) : stageVal m c ((oR s r).emb i) = part m c s r i := by
  have hi0 : (i 0).val < 1 := (i 0).isLt
  have hi1 : (i 1).val < 256 := (i 1).isLt
  have e0 : ((oR s r).emb i) 0 = s := Fin.ext (by rw [Rect.emb_apply]; simp; omega)
  have v1 : (((oR s r).emb i) 1).val = 256 * r.val + (i 1).val := by rw [Rect.emb_apply]; simp
  have e1 : (⟨(((oR s r).emb i) 1).val / 256, by have : (((oR s r).emb i) 1).val < 1024 := (((oR s r).emb i) 1).isLt; omega⟩ : Fin 4) = r :=
    Fin.ext (by show (((oR s r).emb i) 1).val / 256 = r.val; rw [v1]; omega)
  have e2 : inChunk ((oR s r).emb i) = i := by
    funext a
    match a with
    | 0 => exact Fin.ext (by show 0 = (i 0).val; omega)
    | 1 => exact Fin.ext (by show (((oR s r).emb i) 1).val % 256 = (i 1).val; rw [v1]; omega)
    | 2 => exact Fin.ext (by show (((oR s r).emb i) 2).val = (i 2).val; rw [Rect.emb_apply]; simp)
  unfold stageVal; rw [e0, e1, e2]

/-- What slot `s` holds. -/
def slotVal (s : Fin 4) : S1x1024x512.Idx → Elt F .f32 := fun j => stageVal m c ((osR s).emb j)

/-- The four chunks of a slot are the slot. -/
theorem slot_glue (s : Fin 4) :
    (bigSep Finset.univ fun r : Fin 4 => onew m c s r) ⊢ (owns (c : Thread nD τ) (osSl s) fullShare (slotVal m c s) : sProp 𝕄) := by
  have h := owns_rects_join (nD := nD) (τ := τ) (Ix := Unit) (Name := ℕ) (U := UU) (Lvl := ℕ) (c : Thread nD τ) mo fullShare
    (fun r : Fin 4 => oR s r) (fun _ _ => rfl)
    (fun r r' hr => pieces_disjoint (fun t : Fin 4 × Fin 4 => oR t.1 t.2) _ oR_tag (s, r) (s, r') (fun he => hr (congrArg Prod.snd he)))
    (stageVal m c) Finset.univ
  simp only [stageVal_chunk] at h
  have hset : (Finset.univ.biUnion fun r : Fin 4 => ((mo : Memref sig .tc .vmem S4x1024x512 .f32).view.slice (oR s r)).set) = (osSl s).view.set := by
    have hos : (osSl s).view.set = (osR s).set.map (mo : Memref sig .tc .vmem S4x1024x512 .f32).view.emb := View.set_slice _ _
    rw [hos]
    ext i
    simp only [Finset.mem_biUnion, Finset.mem_univ, true_and, View.set_slice, Finset.mem_map]
    constructor
    · rintro ⟨r, k, hk, rfl⟩
      exact ⟨k, (osR_tag s k).mpr (congrArg Prod.fst ((oR_tag (s, r) k).mp hk)), rfl⟩
    · rintro ⟨k, hk, rfl⟩
      exact ⟨_, k, (oR_tag (s, _) k).mpr (Prod.ext ((osR_tag s k).mp hk) rfl), rfl⟩
  refine (show _ ⊢ _ from h).trans ?_
  rw [hset]
  unfold owns
  iintro ⟨%g, %hg, H⟩
  iexists g
  isplitr
  · ipureintro
    funext j
    have hk : (osR s).emb j ∈ (osR s).set := by rw [← (osR s).map_emb_univ]; exact Finset.mem_map_of_mem _ (Finset.mem_univ _)
    have hr := (oR_tag (s, _) ((osR s).emb j)).mpr (Prod.ext ((osR_tag s _).mp hk) rfl)
    rw [← (oR _ _).map_emb_univ, Finset.mem_map] at hr
    obtain ⟨i, -, hi⟩ := hr
    have := hg _ (Finset.mem_univ _) i
    rw [← stageVal_chunk] at this
    have hi' : (oR s ⟨(((osR s).emb j) 1).val / 256, by
      have : (((osR s).emb j) 1).val < 1024 := (((osR s).emb j) 1).isLt; omega⟩).emb i = (osR s).emb j := hi
    rw [hi'] at this
    exact this
  · iexact H

end Cert.KernelIdeal.Run

end
-- ==== Proof.Parts.lean ====
/-
# The parts of the body

The greeting, the four steps, the taking in of a slot and the end, each as a statement of what it takes and leaves, put
together from the blocks.
-/
module

public import proofs.«01_k».proof.Proof.Rects

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-! ## Putting blocks together -/

section Glue
variable {m K c}

theorem T.seq {A B C : sProp 𝕄} {p : P F PUnit} {q : PUnit → P F PUnit} (h : T m K c A p B) (h' : T m K c B (q ⟨⟩) C) :
    T m K c A (p >>= q) C := by
  unfold T
  iintro ⟨#HC, HA⟩
  iapply h.use $$ [$]
  iintro HB
  iapply (show iprop(Ctx m K ∗ B) ⊢ W c (q ⟨⟩) fun _ => C from h')
  isplitr; · iexact HC
  iexact HB

theorem T.frame {A B : sProp 𝕄} {p : P F PUnit} (h : T m K c A p B) (R : sProp 𝕄) : T m K c iprop(A ∗ R) p iprop(B ∗ R) := by
  unfold T
  iintro ⟨#HC, HA, HR⟩
  iapply h.last $$ [$]
  iintro HB
  isplitl [HB] <;> iassumption

/-- A separating conjunction over the four chunks. -/
abbrev four (Φ : Fin 4 → sProp 𝕄) : sProp 𝕄 := iprop(Φ 0 ∗ Φ 1 ∗ Φ 2 ∗ Φ 3)

omit [FloatOps F] in
theorem bigSep_four (Φ : Fin 4 → sProp 𝕄) : bigSep Finset.univ Φ = four Φ :=
  bigSep_univ_eq_bigSepL [0, 1, 2, 3] (by decide) (by decide) Φ
omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_two (Φ : Fin 2 → sProp 𝕄) : bigSep Finset.univ Φ = iprop(Φ 0 ∗ Φ 1) :=
  bigSep_univ_eq_bigSepL [0, 1] (by decide) (by decide) Φ

/-- The same block for each of the four chunks, with what they share. -/
theorem four_t {Φ Ψ : Fin 4 → sProp 𝕄} {R : ℕ → sProp 𝕄} {p : Fin 4 → P F PUnit}
    (h : ∀ r : Fin 4, T m K c iprop(Φ r ∗ R r.val) (p r) iprop(Ψ r ∗ R (r.val + 1))) :
    T m K c iprop(four Φ ∗ R 0) (do p 0; p 1; p 2; p 3) iprop(four Ψ ∗ R 4) := by
  have h0 : T m K c iprop(Φ 0 ∗ R 0) (p 0) iprop(Ψ 0 ∗ R 1) := h 0
  have h1 : T m K c iprop(Φ 1 ∗ R 1) (p 1) iprop(Ψ 1 ∗ R 2) := h 1
  have h2 : T m K c iprop(Φ 2 ∗ R 2) (p 2) iprop(Ψ 2 ∗ R 3) := h 2
  have h3 : T m K c iprop(Φ 3 ∗ R 3) (p 3) iprop(Ψ 3 ∗ R 4) := h 3
  unfold T
  simp only [four]
  iintro ⟨#HC, ⟨H0, H1, H2, H3⟩, HR⟩
  iapply h0.use $$ [$]; iintro ⟨H0, HR⟩
  iapply h1.use $$ [$]; iintro ⟨H1, HR⟩
  iapply h2.use $$ [$]; iintro ⟨H2, HR⟩
  iapply h3.last $$ [$]; iintro ⟨H3, HR⟩
  iframel

end Glue

/-! ## The greeting -/

theorem greetings (c : Dev nD) (Φ : Fin 3 → sProp 𝕄) : bigSep Finset.univ Φ = iprop(Φ (greet 0 c) ∗ Φ (greet 1 c) ∗ Φ (greet 2 c)) :=
  bigSep_univ_eq_bigSepL [greet 0 c, greet 1 c, greet 2 c] (by revert c; decide) (by revert c; decide) Φ

theorem greeted : ∀ c : Dev nD, ((Finset.univ.erase (greet 0 c)).erase (greet 1 c)).erase (greet 2 c) = ∅ := by decide
theorem greet_mem1 : ∀ c : Dev nD, greet 1 c ∈ Finset.univ.erase (greet 0 c) := by decide
theorem greet_mem2 : ∀ c : Dev nD, greet 2 c ∈ (Finset.univ.erase (greet 0 c)).erase (greet 1 c) := by decide

variable {m K c}

theorem hello_t :
    T m K c iprop(xsrc m c 0 ∗ xfree c 0 ∗ wsrc m c 0 ∗ wfree c 0 ∗ xsrc m c 1 ∗ xfree c 1 ∗ wsrc m c 1 ∗ wfree c 1
        ∗ (bigSep Finset.univ fun s : Fin 3 => greeting c s) ∗ barTok c ∗ OB c Finset.univ)
      (hello c)
      iprop(xfly m c 0 0 ∗ wfly m c 0 0 ∗ xfly m c 1 1 ∗ wfly m c 1 1 ∗ (bigSep Finset.univ fun s : Fin 3 => barPay c s)
        ∗ semVal (barCell c) 0 ∗ OW c 0) := by
  rw [greetings c fun s => greeting c s]
  unfold T hello
  iintro ⟨#HC, Hx0, Hf0, Hw0, Hg0, Hx1, Hf1, Hw1, Hg1, ⟨Hs0, Hs1, Hs2⟩, Hb, HO⟩
  iapply (xStart_t 0 0).use $$ [$]; iintro HX0
  iapply (wGo_t 0 0).use $$ [$]; iintro HW0
  iapply (xStart_t 1 1).use $$ [$]; iintro HX1
  iapply (wGo_t 1 1).use $$ [$]; iintro HW1
  iapply (signal_t (Finset.mem_univ (greet 0 c))).use $$ [$]; iintro HO
  iapply (signal_t (greet_mem1 c)).use $$ [$]; iintro HO
  iapply (signal_t (greet_mem2 c)).use $$ [$]; iintro HO
  rw [greeted c]
  iapply barWait_t.last $$ [$]; iintro ⟨Hp, Hz, HO⟩
  iframel

/-! ## The steps -/

variable (c) in
/-- What a chunk's push spends: its send chunk, the peer's receive chunk, and the rights to the two cells. -/
def pushRes (s : Fin 3) (r : Fin 4) : sProp 𝕄 := iprop(sendPay c s r ∗ land (peer s c) s r ∗ pushTok c s r)

theorem mulPush_t (p : Fin 2) (s : Fin 3) (r : Fin 4) :
    T m K c iprop((xnew m c r ∗ pushRes c s r) ∗ wnew m c p s.castSucc ∗ OW c (4 * s.val + r.val)) (do mulSend p s r; push (peer s c) s r)
      iprop((xnew m c r ∗ sendCred c s r) ∗ wnew m c p s.castSucc ∗ OW c (4 * s.val + (r.val + 1))) := by
  unfold T pushRes
  iintro ⟨#HC, ⟨Hx, Hs, Hl, Ht⟩, Hw, HO⟩
  iapply (mulSend_t p s r).use $$ [$]; iintro ⟨Hx, Hw, Hs⟩
  iapply (push_t s r).last $$ [$]; iintro ⟨Hc, HO⟩
  iframel

theorem pushes_t (p : Fin 2) (s : Fin 3) :
    T m K c iprop(four (fun r => iprop(xnew m c r ∗ pushRes c s r)) ∗ wnew m c p s.castSucc ∗ OW c (4 * s.val)) (pushes p s c)
      iprop(four (fun r => iprop(xnew m c r ∗ sendCred c s r)) ∗ wnew m c p s.castSucc ∗ OW c (4 * s.val + 4)) := by
  have h := four_t (m := m) (K := K) (c := c) (R := fun n => iprop(wnew m c p s.castSucc ∗ OW c (4 * s.val + n))) (mulPush_t p s)
  unfold pushes sends
  simp only [bind_assoc] at h
  exact h

theorem first_t (p : Fin 2) (r : Fin 4) {n n' : ℕ} (hr : r.val = n) (hr' : n + 1 = n') {next : P F PUnit} {A B : sProp 𝕄} (hn : T m K c iprop(xfree c p ∗ A) next B) :
    T m K c iprop((xfly m c p r ∗ some_ c (xbSl r) ∗ pushRes c 0 r ∗ A) ∗ wnew m c 0 0 ∗ OW c n) (first (peer 0 c) p r next)
      iprop((xsrc m c r ∗ xnew m c r ∗ sendCred c 0 r ∗ B) ∗ wnew m c 0 0 ∗ OW c n') := by
  subst hr hr'
  have h := mulPush_t (m := m) (K := K) (c := c) 0 0 r
  simp only [show 4 * (0 : Fin 3).val + r.val = r.val from Nat.zero_add _, show 4 * (0 : Fin 3).val + (r.val + 1) = r.val + 1 from Nat.zero_add _,
    show Fin.castSucc (0 : Fin 3) = 0 from rfl] at h
  unfold T first
  iintro ⟨#HC, ⟨Hx, Hb, Hp, HA⟩, Hw, HO⟩
  iapply (xWait_t p r r.val).use $$ [$]; iintro ⟨Hg, Hs, HO⟩
  iapply (xCast_t p r).use $$ [$]; iintro ⟨Hf, Hn⟩
  iapply hn.use $$ [$]; iintro HB
  iapply h.last $$ [$]; iintro ⟨⟨Hn, Hc⟩, Hw, HO⟩
  iframel

theorem part0_t :
    T m K c iprop(wfly m c 0 0 ∗ some_ c (wbSl 0) ∗ wsrc m c 2 ∗ xfly m c 0 0 ∗ xfly m c 1 1 ∗ xsrc m c 2 ∗ xsrc m c 3
        ∗ four (fun r => iprop(some_ c (xbSl r))) ∗ four (fun r => pushRes c 0 r) ∗ OW c 0)
      (part0 c)
      iprop(wsrc m c 0 ∗ wfly m c 0 2 ∗ wnew m c 0 0 ∗ xfree c 0 ∗ xfree c 1
        ∗ four (fun r => xsrc m c r) ∗ four (fun r => xnew m c r) ∗ four (fun r => sendCred c 0 r) ∗ OW c 4) := by
  unfold T part0
  simp only [four]
  iintro ⟨#HC, Hw, Hb, Hw2, HX0, HX1, Hx2, Hx3, ⟨B0, B1, B2, B3⟩, ⟨P0, P1, P2, P3⟩, HO⟩
  iapply (wGet_t 0 0 0).use $$ [$]; iintro ⟨Hg, Hw0, HO⟩
  iapply (wCast_t 0 0).use $$ [$]; iintro ⟨Hf, Hn⟩
  iapply (wGo_t 0 2).use $$ [$]; iintro HW2
  iapply (first_t 0 0 (n := 0) (n' := 1) rfl rfl ((xStart_t 0 2).conseq (A' := iprop(xfree c 0 ∗ xsrc m c 2)) sep_comm.1 .rfl)).use $$ [$]
  iintro ⟨⟨S0, N0, C0, HX2⟩, Hn, HO⟩
  iapply (first_t 1 1 (n := 1) (n' := 2) rfl rfl ((xStart_t 1 3).conseq (A' := iprop(xfree c 1 ∗ xsrc m c 3)) sep_comm.1 .rfl)).use $$ [$]
  iintro ⟨⟨S1, N1, C1, HX3⟩, Hn, HO⟩
  iapply (first_t 0 2 (n := 2) (n' := 3) rfl rfl (T.skip (A := iprop(xfree c 0 ∗ emp)))).use $$ [$]
  iintro ⟨⟨S2, N2, C2, F0, -⟩, Hn, HO⟩
  iapply (first_t 1 3 (n := 3) (n' := 4) rfl rfl (T.skip (A := iprop(xfree c 1 ∗ emp)))).last $$ [$]
  iintro ⟨⟨S3, N3, C3, F1, -⟩, Hn, HO⟩
  iframel

theorem part1_t :
    T m K c iprop(wfly m c 1 1 ∗ some_ c (wbSl 1) ∗ wsrc m c 3
        ∗ four (fun r => xnew m c r) ∗ four (fun r => pushRes c 1 r) ∗ OW c 4)
      (part1 c)
      iprop(wsrc m c 1 ∗ wfly m c 1 3 ∗ wnew m c 1 1 ∗ four (fun r => xnew m c r) ∗ four (fun r => sendCred c 1 r) ∗ OW c 8) := by
  have hp : T m K c iprop(four (fun r => iprop(xnew m c r ∗ pushRes c 1 r)) ∗ wnew m c 1 1 ∗ OW c 4) (pushes 1 1 c)
      iprop(four (fun r => iprop(xnew m c r ∗ sendCred c 1 r)) ∗ wnew m c 1 1 ∗ OW c 8) := pushes_t 1 1
  unfold T part1
  simp only [four] at hp ⊢
  iintro ⟨#HC, Hw, Hb, Hw2, ⟨B0, B1, B2, B3⟩, ⟨P0, P1, P2, P3⟩, HO⟩
  iapply (wGet_t 1 1 4).use $$ [$]; iintro ⟨Hg, Hw0, HO⟩
  iapply (wCast_t 1 1).use $$ [$]; iintro ⟨Hf, Hn⟩
  iapply (wGo_t 1 3).use $$ [$]; iintro HW2
  iapply hp.last $$ [$]; iintro ⟨⟨⟨B0, C0⟩, ⟨B1, C1⟩, ⟨B2, C2⟩, B3, C3⟩, Hn, HO⟩
  iframel

theorem part2_t :
    T m K c iprop(wfly m c 0 2 ∗ some_ c (wbSl 0)
        ∗ four (fun r => xnew m c r) ∗ four (fun r => pushRes c 2 r) ∗ OW c 8)
      (part2 c)
      iprop(wsrc m c 2 ∗ wfree c 0 ∗ wnew m c 0 2 ∗ four (fun r => xnew m c r) ∗ four (fun r => sendCred c 2 r) ∗ OW c 12) := by
  have hp : T m K c iprop(four (fun r => iprop(xnew m c r ∗ pushRes c 2 r)) ∗ wnew m c 0 2 ∗ OW c 8) (pushes 0 2 c)
      iprop(four (fun r => iprop(xnew m c r ∗ sendCred c 2 r)) ∗ wnew m c 0 2 ∗ OW c 12) := pushes_t 0 2
  unfold T part2
  simp only [four] at hp ⊢
  iintro ⟨#HC, Hw, Hb, ⟨B0, B1, B2, B3⟩, ⟨P0, P1, P2, P3⟩, HO⟩
  iapply (wGet_t 0 2 8).use $$ [$]; iintro ⟨Hg, Hw0, HO⟩
  iapply (wCast_t 0 2).use $$ [$]; iintro ⟨Hf, Hn⟩
  iapply hp.last $$ [$]; iintro ⟨⟨⟨B0, C0⟩, ⟨B1, C1⟩, ⟨B2, C2⟩, B3, C3⟩, Hn, HO⟩
  iframel

/-! ## A slot written out -/

variable (m c) in
/-- Slot `s` of the stage as rows. -/
def rowsVal (s : Fin 4) : S1024x512.Idx → Elt F .f32 :=
  fun j => slotVal m c s (Shape.reshapeEquiv squeezes_S1x1024x512_S1024x512.numel_eq j)
variable (c) in
def yold (s : Fin 4) : sProp 𝕄 := some_ c (yDst (yOff s c) (yOff_inb s c))
variable (c) in
def ofree (s : Fin 4) : sProp 𝕄 := semVal ((c : Thread nD τ), .dma (so s)) 0
variable (m c) in
def ynew (s : Fin 4) : sProp 𝕄 := owns (c : Thread nD τ) (yDst (yOff s c) (yOff_inb s c)) fullShare (rowsVal m c s)
variable (m c) in
def ofly (s : Fin 4) : sProp 𝕄 :=
  Transfers.Flight EC (c : Thread nD τ) (.dma (so s)) () (yDst (yOff s c) (yOff_inb s c)).view.dmaCredit
    iprop(ynew m c s ∗ owns (c : Thread nD τ) (oSrc s) fullShare (rowsVal m c s))

theorem oGo_t (s : Fin 4) : T m K c iprop(four (fun r => onew m c s r) ∗ yold c s ∗ ofree c s) (oGo s c) (ofly m c s) := by
  refine (copy_t (src := oSrc s) (dstm := yDst (yOff s c) (yOff_inb s c)) (X := rowsVal m c s) (q := fullShare)
    (View.dmaCredit_pos _ (by decide))).conseq (sep_mono_left ?_) .rfl
  rw [← bigSep_four fun r => onew m c s r]
  refine (slot_glue m c s).trans (BIBase.Entails.of_eq ?_)
  rw [owns_unsqueeze c (osSl s) squeezes_S1x1024x512_S1024x512]
  rfl

theorem oGet_t (s : Fin 4) :
    T m K c iprop(ofly m c s ∗ OW c 12) (oGet s c) iprop((ynew m c s ∗ some_ c (osSl s) ∗ ofree c s) ∗ OW c 12) :=
  (wait_t (n := 12) (by revert s; decide)).conseq .rfl (by
    rw [owns_squeeze]
    iintro ⟨⟨Hd, Hs⟩, Hv, HO⟩
    isplitr [HO]
    · isplitl [Hd]; · iexact Hd
      isplitl [Hs]; · iexists _; iexact Hs
      unfold ofree; iexact Hv
    iexact HO)

theorem part3_t :
    T m K c iprop(wfly m c 1 3 ∗ some_ c (wbSl 1)
        ∗ four (fun r => xnew m c r) ∗ four (fun r => iprop(some_ c (oSl 3 r))) ∗ yold c 3 ∗ ofree c 3 ∗ OW c 12)
      (part3 c)
      iprop(wsrc m c 3 ∗ wfree c 1 ∗ wnew m c 1 3 ∗ four (fun r => xnew m c r) ∗ ofly m c 3 ∗ OW c 12) := by
  have ho := oGo_t (m := m) (K := K) (c := c) 3
  unfold T part3
  simp only [four] at ho ⊢
  iintro ⟨#HC, Hw, Hb, ⟨B0, B1, B2, B3⟩, ⟨P0, P1, P2, P3⟩, Hy, Ho, HO⟩
  iapply (wGet_t 1 3 12).use $$ [$]; iintro ⟨Hg, Hw0, HO⟩
  iapply (wCast_t 1 3).use $$ [$]; iintro ⟨Hf, Hn⟩
  iapply (mulKeep_t 1 0).use $$ [$]; iintro ⟨B0, Hn, O0⟩
  iapply (mulKeep_t 1 1).use $$ [$]; iintro ⟨B1, Hn, O1⟩
  iapply (mulKeep_t 1 2).use $$ [$]; iintro ⟨B2, Hn, O2⟩
  iapply (mulKeep_t 1 3).use $$ [$]; iintro ⟨B3, Hn, O3⟩
  iapply ho.last $$ [$]; iintro Hfl
  iframel

theorem take_t (s : Fin 3) (r : Fin 4) :
    T m K c iprop((recvTok c s r ∗ some_ c (oSl s.castSucc r)) ∗ OW c 12) (take s r)
      iprop((land c s r ∗ onew m c s.castSucc r ∗ semVal (recvCell c s r) 0) ∗ OW c 12) := by
  unfold T take
  iintro ⟨#HC, ⟨Ht, Ho⟩, HO⟩
  iapply (recvWait_t s r).use $$ [$]; iintro ⟨Hp, Hz, HO⟩
  iapply (widen_t s r).last $$ [$]; iintro ⟨Hl, Hn⟩
  iframel

theorem takeSlot_t (s : Fin 3) :
    T m K c iprop(four (fun r => iprop(recvTok c s r ∗ some_ c (oSl s.castSucc r))) ∗ yold c s.castSucc ∗ ofree c s.castSucc ∗ OW c 12)
      (takeSlot s c)
      iprop(four (fun r => iprop(land c s r ∗ semVal (recvCell c s r) 0)) ∗ ofly m c s.castSucc ∗ OW c 12) := by
  have h := four_t (m := m) (K := K) (c := c) (R := fun _ => OW c 12) (take_t s)
  have ho := oGo_t (m := m) (K := K) (c := c) s.castSucc
  unfold takeSlot takeAll
  unfold T
  have e : (do take s 0; take s 1; take s 2; take s 3; oStart s.castSucc (yOff s.castSucc c) (yOff_inb _ c) : P F PUnit)
      = ((do take s 0; take s 1; take s 2; take s 3) >>= fun _ => oGo s.castSucc c) := by
    simp only [bind_assoc]
  rw [e]
  simp only [four] at h ho ⊢
  iintro ⟨#HC, ⟨⟨T0, A0⟩, ⟨T1, A1⟩, ⟨T2, A2⟩, T3, A3⟩, Hy, Hf, HO⟩
  iapply h.use $$ [$]
  iintro ⟨⟨⟨L0, N0, Z0⟩, ⟨L1, N1, Z1⟩, ⟨L2, N2, Z2⟩, L3, N3, Z3⟩, HO⟩
  iapply ho.last $$ [$]; iintro Hfl
  iframel

/-! ## The end -/

theorem leaves_t (s : Fin 3) :
    T m K c iprop(four (fun r => sendTok c s r) ∗ OW c 12) (leaves s)
      iprop(four (fun r => iprop(sendPay c s r ∗ semVal (sendCell c s r) 0)) ∗ OW c 12) :=
  four_t (R := fun _ => OW c 12) fun r => (sendWait_t s r).conseq .rfl (by
    iintro ⟨H1, H2, H3⟩; iframel)

theorem oGets_t :
    T m K c iprop(four (fun s => ofly m c s) ∗ OW c 12) (do oGet 0 c; oGet 1 c; oGet 2 c; oGet 3 c)
      iprop(four (fun s => iprop(ynew m c s ∗ some_ c (osSl s) ∗ ofree c s)) ∗ OW c 12) :=
  four_t (p := fun s => oGet s c) (R := fun _ => OW c 12) oGet_t

end Cert.KernelIdeal.Run

end
-- ==== Proof.Body.lean ====
/-
# The body as a whole

What a device brings to the body and what it has at the end, from the parts run one after the other.
-/
module

public import proofs.«01_k».proof.Proof.Parts

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-- What step `s` brings to its pushes. -/
def sendRes (s : Fin 3) : sProp 𝕄 := four fun r => iprop(sendPay c s r ∗ pushTok c s r)
/-- The positions at the send cells of step `s`. -/
def sendPos (s : Fin 3) : sProp 𝕄 := four fun r => atPos ER (sendCell c s r) 0 ∅ 0
/-- What slot `s` brings to the chunks that come in. -/
def recvRes (s : Fin 3) : sProp 𝕄 := four fun r => iprop(recvTok c s r ∗ some_ c (oSl s.castSucc r))
/-- What is left of a slot that has come in, and of one that has been sent. -/
def recvDone (s : Fin 3) : sProp 𝕄 := four fun r => iprop(land c s r ∗ semVal (recvCell c s r) 0)
def sendDone (s : Fin 3) : sProp 𝕄 := four fun r => iprop(sendPay c s r ∗ semVal (sendCell c s r) 0)

/-- What a device brings to the body, -/
def runPre : sProp 𝕄 :=
  iprop(four (fun r => xsrc m c r) ∗ four (fun s => wsrc m c s) ∗ (xfree c 0 ∗ xfree c 1) ∗ (wfree c 0 ∗ wfree c 1)
    ∗ four (fun r => iprop(some_ c (xbSl r))) ∗ (some_ c (wbSl 0) ∗ some_ c (wbSl 1))
    ∗ (bigSep Finset.univ fun s : Fin 3 => greeting c s) ∗ barTok c ∗ OB c Finset.univ
    ∗ (sendRes c 0 ∗ sendRes c 1 ∗ sendRes c 2) ∗ (sendPos c 0 ∗ sendPos c 1 ∗ sendPos c 2) ∗ (recvRes c 0 ∗ recvRes c 1 ∗ recvRes c 2)
    ∗ four (fun r => iprop(some_ c (oSl 3 r))) ∗ four (fun s => yold c s) ∗ four (fun s => ofree c s))
/-- and what it has at the end. -/
def runPost : sProp 𝕄 :=
  iprop(four (fun r => xsrc m c r) ∗ four (fun s => wsrc m c s) ∗ (xfree c 0 ∗ xfree c 1) ∗ (wfree c 0 ∗ wfree c 1)
    ∗ four (fun r => iprop(some_ c (xbSl r))) ∗ (some_ c (wbSl 0) ∗ some_ c (wbSl 1))
    ∗ semVal (barCell c) 0 ∗ OW c 12
    ∗ (sendDone c 0 ∗ sendDone c 1 ∗ sendDone c 2) ∗ (recvDone c 0 ∗ recvDone c 1 ∗ recvDone c 2)
    ∗ four (fun s => iprop(ynew m c s ∗ some_ c (osSl s) ∗ ofree c s)))

variable {m K c}

theorem pushRes_mk (s : Fin 3) : iprop(sendRes c s ∗ barPay c s) ⊢ (four fun r => pushRes c s r : sProp 𝕄) := by
  unfold sendRes barPay pushRes
  rw [bigSep_four fun r => land (peer s c) s r]
  simp only [four]
  iintro ⟨⟨⟨A0, B0⟩, ⟨A1, B1⟩, ⟨A2, B2⟩, A3, B3⟩, C0, C1, C2, C3⟩
  iframel
theorem sendTok_mk (s : Fin 3) : iprop(sendPos c s ∗ four fun r => sendCred c s r) ⊢ (four fun r => sendTok c s r : sProp 𝕄) := by
  unfold sendPos sendTok
  simp only [four]
  iintro ⟨⟨A0, A1, A2, A3⟩, C0, C1, C2, C3⟩
  iframel

set_option maxHeartbeats 1000000 in
theorem run_t : T m K c (runPre m c) (run c) (runPost m c) := by
  have h0 := part0_t (m := m) (K := K) (c := c)
  have h1 := part1_t (m := m) (K := K) (c := c)
  have h2 := part2_t (m := m) (K := K) (c := c)
  have h3 := part3_t (m := m) (K := K) (c := c)
  have t0 : T m K c iprop(recvRes c 0 ∗ yold c 0 ∗ ofree c 0 ∗ OW c 12) (takeSlot 0 c) iprop(recvDone c 0 ∗ ofly m c 0 ∗ OW c 12) := takeSlot_t 0
  have t1 : T m K c iprop(recvRes c 1 ∗ yold c 1 ∗ ofree c 1 ∗ OW c 12) (takeSlot 1 c) iprop(recvDone c 1 ∗ ofly m c 1 ∗ OW c 12) := takeSlot_t 1
  have t2 : T m K c iprop(recvRes c 2 ∗ yold c 2 ∗ ofree c 2 ∗ OW c 12) (takeSlot 2 c) iprop(recvDone c 2 ∗ ofly m c 2 ∗ OW c 12) := takeSlot_t 2
  have l (s : Fin 3) : T m K c iprop(four (fun r => sendTok c s r) ∗ OW c 12) (leaves s) iprop(sendDone c s ∗ OW c 12) := leaves_t s
  have o := oGets_t (m := m) (K := K) (c := c)
  unfold T run goodbye runPre runPost

  iintro ⟨#HC, ⟨Hx0, Hx1, Hx2, Hx3⟩, ⟨Hw0, Hw1, Hw2, Hw3⟩, ⟨Hf0, Hf1⟩, ⟨Hg0, Hg1⟩, Hxb, ⟨Hb0, Hb1⟩, Hgr, Hbt, HO, ⟨S0, S1, S2⟩, ⟨Q0, Q1, Q2⟩,
    ⟨R0, R1, R2⟩, Ho3, ⟨Y0, Y1, Y2, Y3⟩, Z0, Z1, Z2, Z3⟩
  iapply hello_t.use $$ [$]
  rw [bigSep_three fun s => barPay c s]
  iintro ⟨X0, W0, X1, W1, ⟨P0, P1, P2⟩, Hz, HO⟩
  ihave S0 := (pushRes_mk 0) $$ [S0 P0]; · iframel
  ihave S1 := (pushRes_mk 1) $$ [S1 P1]; · iframel
  ihave S2 := (pushRes_mk 2) $$ [S2 P2]; · iframel
  iapply h0.use $$ [$]
  iintro ⟨Hw0, W2, Hb0, Hf0, Hf1, Hx, Hn, C0, HO⟩
  iapply h1.use $$ [$]
  iintro ⟨Hw1, W3, Hb1, Hn, C1, HO⟩
  iapply h2.use $$ [W2 Hb0 Hn S2 HO]
  · isplitr; · iexact HC
    isplitl [W2]; · iexact W2
    isplitl [Hb0]; · unfold wnew; iexists _; iexact Hb0
    iframel
  iintro ⟨Hw2, Hg0, Hb0, Hn, C2, HO⟩
  iapply h3.use $$ [W3 Hb1 Hn Ho3 Y3 Z3 HO]
  · isplitr; · iexact HC
    isplitl [W3]; · iexact W3
    isplitl [Hb1]; · unfold wnew; iexists _; iexact Hb1
    iframel
  iintro ⟨Hw3, Hg1, Hb1, ⟨N0, N1, N2, N3⟩, O3, HO⟩
  iapply t0.use $$ [$]; iintro ⟨D0, O0, HO⟩
  iapply t1.use $$ [$]; iintro ⟨D1, O1, HO⟩
  iapply t2.use $$ [$]; iintro ⟨D2, O2, HO⟩
  ihave C0 := (sendTok_mk 0) $$ [Q0 C0]; · iframel
  ihave C1 := (sendTok_mk 1) $$ [Q1 C1]; · iframel
  ihave C2 := (sendTok_mk 2) $$ [Q2 C2]; · iframel
  iapply (l 0).use $$ [$]; iintro ⟨E0, HO⟩
  iapply (l 1).use $$ [$]; iintro ⟨E1, HO⟩
  iapply (l 2).use $$ [$]; iintro ⟨E2, HO⟩
  iapply o.last $$ [O0 O1 O2 O3 HO]
  · isplitr; · iexact HC
    simp only [four]
    iframel
  iintro ⟨HY, HO⟩
  isplitl [Hx]; · iexact Hx
  isplitl [Hw0 Hw1 Hw2 Hw3]; · simp only [four]; iframel
  isplitl [Hf0 Hf1]; · iframel
  isplitl [Hg0 Hg1]; · iframel
  isplitl [N0 N1 N2 N3]
  · simp only [four]; unfold xnew
    isplitl [N0]; · iexists _; iexact N0
    isplitl [N1]; · iexists _; iexact N1
    isplitl [N2]; · iexists _; iexact N2
    iexists _; iexact N3
  isplitl [Hb0 Hb1]
  · unfold wnew
    isplitl [Hb0]; · iexists _; iexact Hb0
    iexists _; iexact Hb1
  iframel

end Cert.KernelIdeal.Run

end
-- ==== Proof.Ghost.lean ====
/-
# What the launch deals out

From the launch's semaphores, all at zero, and its one ghost element, every cell gets its invariant, and every device its
positions, the tokens it pays with, its local counters and the credits it will wait for.
-/
module

public import proofs.«01_k».proof.Proof.Body

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The kernel's own semaphores -/

/-- The local ones, and those of the pushes. -/
abbrev Lk : Type := Fin 2 ⊕ Fin 2 ⊕ Fin 4
abbrev Ok : Type := Lk ⊕ (Fin 3 × Fin 4) ⊕ (Fin 3 × Fin 4)
abbrev lsem : Lk → SemLoc sig
  | .inl p => .dma (sx p)
  | .inr (.inl p) => .dma (sw p)
  | .inr (.inr s) => .dma (so s)
abbrev osem : Ok → SemLoc sig
  | .inl k => lsem k
  | .inr k => csem (.inr k)
set_option maxRecDepth 10000 in
theorem ownSemFacts : Pipeline.OwnSemFacts cfg0.spec osem := ⟨by decide, by decide, fun _ w => w.elim0⟩

/-- The local counters at zero. -/
def locals0 : sProp 𝕄 := bigSep Finset.univ fun k : Lk => semVal ((c : Thread nD τ), lsem k) 0
/-- Those of the pushes at zero. -/
def pushes0 : sProp 𝕄 :=
  bigSep Finset.univ fun k : (Fin 3 × Fin 4) ⊕ (Fin 3 × Fin 4) => semVal (kcell (c, .inr k)) 0

omit [FloatOps F] in
theorem ownSems0_eq : (Pipeline.ownSems0 (Ix := Unit) (Name := ℕ) (U := UU) (Lvl := ℕ) (Val := Elt F) (τ := τ) osem c : sProp 𝕄)
    = iprop(locals0 c ∗ pushes0 c) := by
  unfold Pipeline.ownSems0 locals0 pushes0; exact bigSep_univ_sum _
omit [FloatOps F] in
theorem unscopedSems0_eq : (unscopedSems0 c : sProp 𝕄) = semVal (barCell c) 0 := by
  unfold unscopedSems0; rw [bigSep_eq_bigSepL_of_eq [SemLoc.reg barrier0] (by decide) (by decide)]; rfl
omit [FloatOps F] in
theorem univ_unit (Φ : Unit → sProp 𝕄) : bigSep Finset.univ Φ = Φ () := bigSep_univ_eq_bigSepL [()] (by decide) (by decide) Φ
omit [FloatOps F] in
theorem cells0_eq : (bigSep Finset.univ fun k : Ck => semVal (kcell (c, k)) 0 : sProp 𝕄) = iprop(semVal (barCell c) 0 ∗ pushes0 c) := by
  refine (bigSep_univ_sum _).trans ?_
  rw [univ_unit]; rfl

/-! ## The cells and their tokens -/

theorem csem_injective : Function.Injective csem := by decide
theorem kcell_injective : Function.Injective (kcell : Dev nD × Ck → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties of a device's cells: the three greetings, and one for each chunk sent and received. -/
abbrev Tk : Type := Fin 3 ⊕ (Fin 3 × Fin 4) ⊕ (Fin 3 × Fin 4)
abbrev tcell : Tk → Ck
  | .inl _ => kb
  | .inr k => .inr k
abbrev tduty : Tk → Fin 3
  | .inl d => d
  | .inr _ => 0
theorem tk_injective : Function.Injective fun t => (tcell t, tduty t) := by decide
abbrev tokOf (ct : Dev nD × Tk) : GSem nD τ sig × ℕ × Fin 3 := (kcell (ct.1, tcell ct.2), 0, tduty ct.2)
theorem tokOf_injective : Function.Injective tokOf := by
  rintro ⟨c, t⟩ ⟨c', t'⟩ h
  have h1 : (c, tcell t) = (c', tcell t') := kcell_injective (congrArg Prod.fst h)
  have h2 : tduty t = tduty t' := congrArg (fun x : GSem nD τ sig × ℕ × Fin 3 => x.2.2) h
  have h3 : t = t' := tk_injective (Prod.ext (congrArg Prod.snd h1) h2)
  rw [show c = c' from congrArg Prod.fst h1, h3]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks, 1)

/-- The tokens of a device's own cells, -/
def toks : sProp 𝕄 :=
  iprop((bigSep Finset.univ fun s : Fin 3 => dutyTok ER (barCell c) 0 s)
    ∗ (bigSep Finset.univ fun x : Fin 3 × Fin 4 => dutyTok ER (sendCell c x.1 x.2) 0 (0 : Fin 3))
    ∗ (bigSep Finset.univ fun x : Fin 3 × Fin 4 => dutyTok ER (recvCell c x.1 x.2) 0 (0 : Fin 3)))
/-- and those it pays with. -/
def payToks : sProp 𝕄 :=
  iprop((bigSep Finset.univ fun s : Fin 3 => dutyTok ER (barCell (peer s c)) 0 s)
    ∗ (bigSep Finset.univ fun x : Fin 3 × Fin 4 => dutyTok ER (sendCell c x.1 x.2) 0 (0 : Fin 3))
    ∗ (bigSep Finset.univ fun x : Fin 3 × Fin 4 => dutyTok ER (recvCell (peer x.1 c) x.1 x.2) 0 (0 : Fin 3)))
def poss : sProp 𝕄 := bigSep Finset.univ fun k : Ck => atPos ER (kcell (c, k)) 0 ∅ 0

/-- What the ghost element deals a device. -/
def G : sProp 𝕄 :=
  iprop((bigSep Finset.univ fun k : Ck => roundState ER (rd m) (kcell (c, k)) 0)
    ∗ poss c ∗ (bigSep Finset.univ fun k : Ck => reached ER (kcell (c, k)) 0) ∗ toks c)

omit [FloatOps F] in
theorem toks_eq : (bigSep Finset.univ fun t : Tk => dutyTok ER (tokOf (c, t)).1 (tokOf (c, t)).2.1 (tokOf (c, t)).2.2 : sProp 𝕄) = toks c := by
  refine (bigSep_univ_sum _).trans ?_
  rw [bigSep_univ_sum]; rfl

theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  iframel

/-! ## The invariants -/

/-- A device's cells get their invariants. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (rd m) κ (kcell (c, k))))
          ∗ (bigSep Finset.univ fun k : Ck => reached ER (kcell (c, k)) 0) ∗ toks c ∗ poss c ∗ locals0 c) := by
  unfold G
  rw [ownSems0_eq, unscopedSems0_eq]
  iintro ⟨⟨Hl, Hp⟩, Hb, Hst, Hat, Hr, Htok⟩
  ihave Hv := (Entails.of_eq (cells0_eq (F := F) c).symm) $$ [Hb Hp]
  · iframel
  imod (show iprop((bigSep Finset.univ fun k : Ck => semVal (kcell (c, k)) 0) ∗ bigSep Finset.univ fun k : Ck => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (BI.bigSep_mono fun k _ => (Rounds.body_intro ER (rd m) (kcell (c, k))).trans inv_alloc).trans (bigSep_fupd _ _)) $$ [Hv Hst] with Hinv
  · iframel
  imodintro
  iframel

omit [FloatOps F] in
theorem exchange {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod fun x : I × J => Φ x.1 x.2, bigSep_univ_equiv (Equiv.prodComm J I) fun x : I × J => Φ x.1 x.2,
    bigSep_univ_prod]; rfl

omit [FloatOps F] in
/-- Dealt the other way round: what is indexed by a peer goes to that peer. -/
theorem deal {J : Type} [Fintype J] [DecidableEq J] (st : J → Fin 3) (Φ : Dev nD → J → sProp 𝕄) :
    (bigSep Finset.univ fun c => bigSep Finset.univ fun j => Φ c j)
      = bigSep Finset.univ fun c => bigSep Finset.univ fun j => Φ (peer (st j) c) j := by
  rw [exchange, bigSep_congr (fun j _ => bigSep_univ_equiv (swap (st j)) fun c => Φ c j), exchange]; rfl

omit [FloatOps F] in
theorem toks_deal : (bigSep Finset.univ fun c : Dev nD => (toks c : sProp 𝕄)) = bigSep Finset.univ fun c : Dev nD => payToks c := by
  unfold toks payToks
  simp only [bigSep_sep']
  rw [deal (fun s => s) fun (c : Dev nD) (s : Fin 3) => (dutyTok ER (barCell c) 0 s : sProp 𝕄),
    deal (fun x => x.1) fun (c : Dev nD) (x : Fin 3 × Fin 4) => (dutyTok ER (recvCell c x.1 x.2) 0 (0 : Fin 3) : sProp 𝕄)]

/-- Every cell's invariant and that it has reached its round. -/
def records (K : Dev nD × Ck → ℕ) : sProp 𝕄 :=
  iprop((bigSep Finset.univ fun ck : Dev nD × Ck => cellInv ER (rd m) (K ck) (kcell ck))
    ∗ bigSep Finset.univ fun ck : Dev nD × Ck => reached ER (kcell ck) 0)
instance records_persistent (K : Dev nD × Ck → ℕ) : BI.Persistent (records m K) := by unfold records; infer_instance

/-- What the global step makes of it. -/
def G' : sProp 𝕄 := iprop((∃ K, records m K) ∗ payToks c ∗ poss c ∗ locals0 c)

theorem regroup :
    (bigSep Finset.univ fun c : Dev nD => iprop((bigSep Finset.univ fun k : Ck => iprop(∃ κ : ℕ, cellInv ER (rd m) κ (kcell (c, k))))
          ∗ (bigSep Finset.univ fun k : Ck => reached ER (kcell (c, k)) 0) ∗ toks c ∗ poss c ∗ locals0 c) : sProp 𝕄)
      ⊢ bigSep Finset.univ (G' m) := by
  unfold G'
  simp only [bigSep_sep']
  rw [← bigSep_univ_prod (fun ck : Dev nD × Ck => iprop(∃ κ : ℕ, cellInv ER (rd m) κ (kcell ck))),
    ← bigSep_univ_prod (fun ck : Dev nD × Ck => (reached ER (kcell ck) 0 : sProp 𝕄)), toks_deal]
  iintro ⟨HI, #HR, Htok, Hat, Hl⟩
  ihave HK := (BI.bigSep_exists_pi Finset.univ (fun (ck : Dev nD × Ck) (κ : ℕ) => (cellInv ER (rd m) κ (kcell ck) : sProp 𝕄))) $$ HI
  icases HK with ⟨%K, #HI⟩
  isplitr [Htok Hat Hl]
  · iapply (BI.bigSep_of_persistent Finset.univ (iprop(∃ K, records m K) : sProp 𝕄))
    iexists K; unfold records
    isplitl; · iexact HI
    iexact HR
  iframel

theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) :=
  ((BI.bigSep_mono fun c _ => core_alloc m c).trans (bigSep_fupd _ _)).trans (BI.fupd_mono (regroup m))

/-! ## The credits -/

/-- What the devices owe one cell, when each owes it to the peers of one step. -/
theorem owed_at (s : Fin 3) (k k' : Ck) (n : ℕ) :
    (∑ d : Dev nD, (tallyAt (kcell (peer s d, k)) () n : CellTallies nD τ sig Unit) (kcell (c, k')) ()) = if k' = k then n else 0 := by
  rw [Fintype.sum_eq_single (peer s c)]
  · rw [tallyAt_apply, peer_peer]
    by_cases h : k' = k
    · rw [if_pos h, if_pos ⟨by rw [h], rfl⟩]
    · rw [if_neg h, if_neg fun h' => h (congrArg Prod.snd (kcell_injective h'.1))]
  · intro d hd
    rw [tallyAt_apply, if_neg fun h' => hd (by rw [show c = peer s d from congrArg Prod.fst (kcell_injective h'.1), peer_peer])]

theorem owed_sum (k : Ck) :
    (∑ d : Dev nD, O₀ d (kcell (c, k)) ())
      = (∑ x : Fin 3 × Fin 4, if k = kr x.1 x.2 then N else 0) + ∑ s : Fin 3, if k = kb then 1 else 0 := by
  have hd (d : Dev nD) : O₀ d (kcell (c, k)) ()
      = (∑ x : Fin 3 × Fin 4, (tallyAt (kcell (peer x.1 d, kr x.1 x.2)) () N : CellTallies nD τ sig Unit) (kcell (c, k)) ())
        + ∑ s : Fin 3, (tallyAt (kcell (peer s d, kb)) () 1 : CellTallies nD τ sig Unit) (kcell (c, k)) () := by
    unfold O₀ owe oweBar
    rw [show todo 0 = Finset.univ from by decide, Pi.add_apply, Finsupp.add_apply, Finset.sum_apply, Finsupp.finset_sum_apply,
      Finset.sum_apply, Finsupp.finset_sum_apply]
  rw [Finset.sum_congr rfl fun d _ => hd d, Finset.sum_add_distrib, Finset.sum_comm, Finset.sum_comm (s := Finset.univ) (t := (Finset.univ : Finset (Fin 3)))]
  congr 1
  · exact Finset.sum_congr rfl fun x _ => owed_at c x.1 _ _ _
  · exact Finset.sum_congr rfl fun s _ => owed_at c s _ _ _

theorem launch_at (k : Ck) (n : ℕ) (h : (∑ d : Dev nD, O₀ d (kcell (c, k)) ()) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]
theorem launch_bar : tallyOn (barCell c) (launchCredit (Pipeline.owing O₀) 0 (barCell c)) = (tallyAt (barCell c) () 3 : CellTallies nD τ sig Unit) :=
  launch_at c kb 3 (by
    rw [owed_sum, Finset.sum_eq_zero fun x _ => if_neg fun h => by cases h]; rfl)
theorem launch_recv (x : Fin 3 × Fin 4) :
    tallyOn (recvCell c x.1 x.2) (launchCredit (Pipeline.owing O₀) 0 (recvCell c x.1 x.2)) = (tallyAt (recvCell c x.1 x.2) () N : CellTallies nD τ sig Unit) :=
  launch_at c (kr x.1 x.2) N (by
    rw [owed_sum, Finset.sum_eq_zero (s := (Finset.univ : Finset (Fin 3))) fun s _ => if_neg (by intro h; cases h), Nat.add_zero,
      Fintype.sum_eq_single x fun y hy => if_neg fun h => hy (by cases y; cases x; cases h; rfl), if_pos rfl])

/-- What a device will wait for from others. -/
def creds : sProp 𝕄 :=
  iprop(cred (tallyAt (barCell c) () 3) ∗ bigSep Finset.univ fun x : Fin 3 × Fin 4 => cred (tallyAt (recvCell c x.1 x.2) () N))

/-- The cells a device waits at for others. -/
def inSem : Unit ⊕ (Fin 3 × Fin 4) → SemLoc sig := fun k => csem (k.elim (fun _ => kb) fun x => kr x.1 x.2)
theorem inSem_injective : Function.Injective inSem := by decide

omit [FloatOps F] in
theorem pick_in (Φ : SemLoc sig → sProp 𝕄) : bigSep Finset.univ Φ ⊢ bigSep Finset.univ fun k => Φ (inSem k) := by
  classical
  rw [← bigSep_image_of_injOn (inSem_injective.injOn) Φ]
  exact bigSep_subset (Finset.subset_univ _)

theorem creds_intro : (Pipeline.launchCred O₀ c : sProp 𝕄) ⊢ creds c := by
  unfold Pipeline.launchCred creds
  refine (pick_in _).trans ?_
  rw [bigSep_univ_sum, univ_unit]
  refine sep_mono (BIBase.Entails.of_eq (congrArg cred (launch_bar c))) (BIBase.Entails.of_eq ?_)
  exact bigSep_congr fun x _ => congrArg cred (launch_recv c x)

end Cert.KernelIdeal.Run

end
-- ==== Proof.Whole.lean ====
/-
# The body's holdings out of whole buffers

Every array and buffer is cut into the pieces the body works on, and put together again when the body is done.
-/
module

public import proofs.«01_k».proof.Proof.Ghost
public import Idealize.ShloMosaic.Lib.ValueLayout

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (c : Dev nD)

/-! ## Families over the steps and chunks -/

omit [FloatOps F] in
theorem grid3 (Φ : Fin 3 → Fin 4 → sProp 𝕄) :
    (bigSep Finset.univ fun x : Fin 3 × Fin 4 => Φ x.1 x.2) = iprop(four (Φ 0) ∗ four (Φ 1) ∗ four (Φ 2)) := by
  rw [bigSep_univ_prod fun x : Fin 3 × Fin 4 => Φ x.1 x.2, bigSep_three]; simp only [bigSep_four]

omit [FloatOps F] in
theorem grid4 (Φ : Fin 4 → Fin 4 → sProp 𝕄) :
    (bigSep Finset.univ fun x : Fin 4 × Fin 4 => Φ x.1 x.2)
      ⊢ iprop((bigSep Finset.univ fun x : Fin 3 × Fin 4 => Φ x.1.castSucc x.2) ∗ bigSep Finset.univ fun r : Fin 4 => Φ 3 r) := by
  rw [bigSep_univ_prod fun x : Fin 4 × Fin 4 => Φ x.1 x.2, bigSep_four, grid3 fun s r => Φ s.castSucc r]
  simp only [bigSep_four]
  show iprop(four (Φ 0) ∗ four (Φ 1) ∗ four (Φ 2) ∗ four (Φ 3)) ⊢ iprop((four (Φ 0) ∗ four (Φ 1) ∗ four (Φ 2)) ∗ four (Φ 3))
  iintro ⟨H0, H1, H2, H3⟩
  isplitr [H3]
  · isplitl [H0]; · iexact H0
    isplitl [H1] <;> iassumption
  iexact H3

theorem runPre_eq :
    runPre m c = iprop((bigSep Finset.univ fun r => xsrc m c r) ∗ (bigSep Finset.univ fun s => wsrc m c s)
      ∗ (bigSep Finset.univ fun p => xfree c p) ∗ (bigSep Finset.univ fun p => wfree c p)
      ∗ (bigSep Finset.univ fun r => some_ c (xbSl r)) ∗ (bigSep Finset.univ fun p => some_ c (wbSl p))
      ∗ (bigSep Finset.univ fun s : Fin 3 => greeting c s) ∗ barTok c ∗ OB c Finset.univ
      ∗ (bigSep Finset.univ fun x : Fin 3 × Fin 4 => iprop(sendPay c x.1 x.2 ∗ pushTok c x.1 x.2))
      ∗ (bigSep Finset.univ fun x : Fin 3 × Fin 4 => atPos ER (sendCell c x.1 x.2) 0 ∅ 0)
      ∗ (bigSep Finset.univ fun x : Fin 3 × Fin 4 => iprop(recvTok c x.1 x.2 ∗ some_ c (oSl x.1.castSucc x.2)))
      ∗ (bigSep Finset.univ fun r => some_ c (oSl 3 r)) ∗ (bigSep Finset.univ fun s => yold c s) ∗ bigSep Finset.univ fun s => ofree c s) := by
  rw [grid3 fun s r => iprop(sendPay c s r ∗ pushTok c s r), grid3 fun s r => atPos ER (sendCell c s r) 0 ∅ 0,
    grid3 fun s r => iprop(recvTok c s r ∗ some_ c (oSl s.castSucc r))]
  simp only [bigSep_four, bigSep_two]
  rfl

theorem runPost_eq :
    runPost m c = iprop((bigSep Finset.univ fun r => xsrc m c r) ∗ (bigSep Finset.univ fun s => wsrc m c s)
      ∗ (bigSep Finset.univ fun p => xfree c p) ∗ (bigSep Finset.univ fun p => wfree c p)
      ∗ (bigSep Finset.univ fun r => some_ c (xbSl r)) ∗ (bigSep Finset.univ fun p => some_ c (wbSl p))
      ∗ semVal (barCell c) 0 ∗ OW c 12
      ∗ (bigSep Finset.univ fun x : Fin 3 × Fin 4 => iprop(sendPay c x.1 x.2 ∗ semVal (sendCell c x.1 x.2) 0))
      ∗ (bigSep Finset.univ fun x : Fin 3 × Fin 4 => iprop(land c x.1 x.2 ∗ semVal (recvCell c x.1 x.2) 0))
      ∗ bigSep Finset.univ fun s => iprop(ynew m c s ∗ some_ c (osSl s) ∗ ofree c s)) := by
  rw [grid3 fun s r => iprop(sendPay c s r ∗ semVal (sendCell c s r) 0), grid3 fun s r => iprop(land c s r ∗ semVal (recvCell c s r) 0)]
  simp only [bigSep_four, bigSep_two]
  rfl

/-! ## The result -/

/-- A place of the result as a place of the output stage: the rows a device gets from step `s`'s peer are in slot `s`. -/
def ySlot (k : S4096x512.Idx) : S4x1024x512.Idx := fun a => match a with
  | 0 => (stepEquiv c).symm ⟨(k 0).val / 1024, by have : (k 0).val < 4096 := (k 0).isLt; show _ < 4; omega⟩
  | 1 => ⟨(k 0).val % 1024, Nat.mod_lt _ (by decide)⟩
  | 2 => k 1
/-- What the result holds at the end. -/
def yVal (k : S4096x512.Idx) : Elt F .f32 := stageVal m c (ySlot c k)

theorem rows_place (j : S1024x512.Idx) (i : S1x1024x512.Idx) (hi : Shape.reshapeEquiv squeezes_S1x1024x512_S1024x512.numel_eq j = i) :
    (i 1).val = (j 0).val ∧ (i 2).val = (j 1).val := by
  subst hi
  rw [eq_ix2 (n0 := 1024) (n1 := 512) j]
  have h := reshapeEquiv_ix2_1ab (a := 1024) (b := 512) squeezes_S1x1024x512_S1024x512.numel_eq (j 0) (j 1)
  exact ⟨congrArg Fin.val (congrFun h 1), congrArg Fin.val (congrFun h 2)⟩

theorem osR_val (s : Fin 4) (i : S1x1024x512.Idx) :
    ((osR s).emb i) 0 = s ∧ (((osR s).emb i) 1).val = (i 1).val ∧ (((osR s).emb i) 2).val = (i 2).val := by
  have h0 : (i 0).val < 1 := (i 0).isLt
  refine ⟨Fin.ext ?_, ?_, ?_⟩ <;> rw [Rect.emb_apply] <;> simp
  omega
theorem yR_val (s : Fin 4) (j : S1024x512.Idx) :
    (((yR (yOff s c) (yOff_inb s c)).emb j) 0).val = 1024 * (dst s c).val + (j 0).val
      ∧ (((yR (yOff s c) (yOff_inb s c)).emb j) 1).val = (j 1).val := by
  constructor <;> rw [Rect.emb_apply] <;> simp

theorem yVal_rows (s : Fin 4) (j : S1024x512.Idx) : yVal m c ((yR (yOff s c) (yOff_inb s c)).emb j) = rowsVal m c s j := by
  unfold yVal rowsVal slotVal
  generalize hi : Shape.reshapeEquiv squeezes_S1x1024x512_S1024x512.numel_eq j = i
  obtain ⟨i1, i2⟩ := rows_place j i hi
  obtain ⟨o0, o1, o2⟩ := osR_val s i
  obtain ⟨y0, y1⟩ := yR_val c s j
  have hj : (j 0).val < 1024 := (j 0).isLt
  have hs := (yR_tag c s ((yR (yOff s c) (yOff_inb s c)).emb j)).mp
    (by rw [← (yR (yOff s c) (yOff_inb s c)).map_emb_univ]; exact Finset.mem_map_of_mem _ (Finset.mem_univ _))
  congr 1
  funext a
  match a with
  | 0 => exact hs.trans o0.symm
  | 1 => exact Fin.ext (by show (((yR (yOff s c) (yOff_inb s c)).emb j) 0).val % 1024 = (((osR s).emb i) 1).val; omega)
  | 2 => exact Fin.ext (by show (((yR (yOff s c) (yOff_inb s c)).emb j) 1).val = (((osR s).emb i) 2).val; omega)

/-! ## The cuts -/

omit [FloatOps F] in
theorem cut_x : (owns (c : Thread nD τ) mx fullShare (xv m c) : sProp 𝕄) ⊢ bigSep Finset.univ fun r => xsrc m c r :=
  owns_cut (fun r => xR r) (fun _ _ => rfl) _ (fun r k => xR_tag r k) c mx (xv m c)
theorem glue_x : (bigSep Finset.univ fun r => xsrc m c r) ⊢ (owns (c : Thread nD τ) mx fullShare (xv m c) : sProp 𝕄) :=
  owns_glue (fun r => xR r) (fun _ _ => rfl) _ (fun r k => xR_tag r k) c mx (xv m c)
omit [FloatOps F] in
theorem cut_w : (owns (c : Thread nD τ) mw fullShare (wv m c) : sProp 𝕄) ⊢ bigSep Finset.univ fun s => wsrc m c s :=
  owns_cut (fun s => wR (wOff s c) (wOff_inb s c)) (fun _ _ => rfl) _ (fun r k => wR_tag c r k) c mw (wv m c)
theorem glue_w : (bigSep Finset.univ fun s => wsrc m c s) ⊢ (owns (c : Thread nD τ) mw fullShare (wv m c) : sProp 𝕄) :=
  owns_glue (fun s => wR (wOff s c) (wOff_inb s c)) (fun _ _ => rfl) _ (fun r k => wR_tag c r k) c mw (wv m c)
theorem cut_y : (some_ c my : sProp 𝕄) ⊢ bigSep Finset.univ fun s => yold c s :=
  some_cut (fun s => yR (yOff s c) (yOff_inb s c)) (fun _ _ => rfl) _ (fun r k => yR_tag c r k) c my
theorem glue_y : (bigSep Finset.univ fun s => ynew m c s) ⊢ (owns (c : Thread nD τ) my fullShare (yVal m c) : sProp 𝕄) :=
  (BIBase.Entails.of_eq (bigSep_congr fun s _ =>
      show ynew m c s = owns (c : Thread nD τ) (yDst (yOff s c) (yOff_inb s c)) fullShare fun j => yVal m c ((yR (yOff s c) (yOff_inb s c)).emb j) from by
        unfold ynew; exact congrArg _ (funext fun j => (yVal_rows m c s j).symm))).trans
    (owns_glue (fun s => yR (yOff s c) (yOff_inb s c)) (fun _ _ => rfl) _ (fun r k => yR_tag c r k) c my (yVal m c))
theorem cut_xf : (some_ c mxf : sProp 𝕄) ⊢ bigSep Finset.univ fun p : Fin 2 => some_ c (xfSl p) :=
  some_cut (fun p : Fin 2 => xfR p) (fun _ _ => rfl) _ (fun r k => xfR_tag r k) c mxf
theorem glue_xf : (bigSep Finset.univ fun p : Fin 2 => some_ c (xfSl p)) ⊢ (some_ c mxf : sProp 𝕄) :=
  some_glue (fun p : Fin 2 => xfR p) (fun _ _ => rfl) _ (fun r k => xfR_tag r k) c mxf
theorem cut_xb : (some_ c mxb : sProp 𝕄) ⊢ bigSep Finset.univ fun r : Fin 4 => some_ c (xbSl r) :=
  some_cut (fun r : Fin 4 => xR r) (fun _ _ => rfl) _ (fun r k => xR_tag r k) c mxb
theorem glue_xb : (bigSep Finset.univ fun r : Fin 4 => some_ c (xbSl r)) ⊢ (some_ c mxb : sProp 𝕄) :=
  some_glue (fun r : Fin 4 => xR r) (fun _ _ => rfl) _ (fun r k => xR_tag r k) c mxb
theorem cut_wf : (some_ c mwf : sProp 𝕄) ⊢ bigSep Finset.univ fun p : Fin 2 => some_ c (wfSl p) :=
  some_cut (fun p : Fin 2 => wfR p) (fun _ _ => rfl) _ (fun r k => wfR_tag r k) c mwf
theorem glue_wf : (bigSep Finset.univ fun p : Fin 2 => some_ c (wfSl p)) ⊢ (some_ c mwf : sProp 𝕄) :=
  some_glue (fun p : Fin 2 => wfR p) (fun _ _ => rfl) _ (fun r k => wfR_tag r k) c mwf
theorem cut_wb : (some_ c mwb : sProp 𝕄) ⊢ bigSep Finset.univ fun p : Fin 2 => some_ c (wbSl p) :=
  some_cut (fun p : Fin 2 => wfR p) (fun _ _ => rfl) _ (fun r k => wfR_tag r k) c mwb
theorem glue_wb : (bigSep Finset.univ fun p : Fin 2 => some_ c (wbSl p)) ⊢ (some_ c mwb : sProp 𝕄) :=
  some_glue (fun p : Fin 2 => wfR p) (fun _ _ => rfl) _ (fun r k => wfR_tag r k) c mwb
theorem cut_sd : (some_ c msd : sProp 𝕄) ⊢ bigSep Finset.univ fun t : Fin 3 × Fin 4 => sendPay c t.1 t.2 :=
  some_cut (fun t : Fin 3 × Fin 4 => cR t.1 t.2) (fun _ _ => rfl) _ (fun r k => cR_tag r k) c msd
theorem glue_sd : (bigSep Finset.univ fun t : Fin 3 × Fin 4 => sendPay c t.1 t.2) ⊢ (some_ c msd : sProp 𝕄) :=
  some_glue (fun t : Fin 3 × Fin 4 => cR t.1 t.2) (fun _ _ => rfl) _ (fun r k => cR_tag r k) c msd
theorem cut_rv : (some_ c mrv : sProp 𝕄) ⊢ bigSep Finset.univ fun t : Fin 3 × Fin 4 => land c t.1 t.2 :=
  some_cut (fun t : Fin 3 × Fin 4 => cR t.1 t.2) (fun _ _ => rfl) _ (fun r k => cR_tag r k) c mrv
theorem glue_rv : (bigSep Finset.univ fun t : Fin 3 × Fin 4 => land c t.1 t.2) ⊢ (some_ c mrv : sProp 𝕄) :=
  some_glue (fun t : Fin 3 × Fin 4 => cR t.1 t.2) (fun _ _ => rfl) _ (fun r k => cR_tag r k) c mrv
theorem cut_o : (some_ c mo : sProp 𝕄) ⊢ iprop((bigSep Finset.univ fun x : Fin 3 × Fin 4 => some_ c (oSl x.1.castSucc x.2))
    ∗ bigSep Finset.univ fun r : Fin 4 => some_ c (oSl 3 r)) :=
  (some_cut (fun t : Fin 4 × Fin 4 => oR t.1 t.2) (fun _ _ => rfl) _ (fun r k => oR_tag r k) c mo).trans (grid4 fun s r => some_ c (oSl s r))
theorem glue_o : (bigSep Finset.univ fun s : Fin 4 => some_ c (osSl s)) ⊢ (some_ c mo : sProp 𝕄) :=
  some_glue (fun s => osR s) (fun _ _ => rfl) _ (fun r k => osR_tag r k) c mo

/-! ## Before the body -/

/-- The arrays when the kernel starts, and when it is done. -/
def arrs0 : sProp 𝕄 :=
  iprop(owns (c : Thread nD τ) mx fullShare (xv m c) ∗ owns (c : Thread nD τ) mw fullShare (wv m c) ∗ some_ c my)
def arrs1 : sProp 𝕄 :=
  iprop(owns (c : Thread nD τ) mx fullShare (xv m c) ∗ owns (c : Thread nD τ) mw fullShare (wv m c) ∗ owns (c : Thread nD τ) my fullShare (yVal m c))
/-- The kernel's buffers, at any contents. -/
def scr : sProp 𝕄 :=
  iprop(some_ c mxf ∗ some_ c mxb ∗ some_ c mwf ∗ some_ c mwb ∗ some_ c msd ∗ some_ c mrv ∗ some_ c mo)

omit [FloatOps F] in
theorem locals0_eq : (locals0 c : sProp 𝕄) = iprop((bigSep Finset.univ fun p : Fin 2 => semVal ((c : Thread nD τ), .dma (sx p)) 0)
    ∗ (bigSep Finset.univ fun p : Fin 2 => semVal ((c : Thread nD τ), .dma (sw p)) 0) ∗ bigSep Finset.univ fun s : Fin 4 => ofree c s) := by
  unfold locals0; rw [bigSep_univ_sum, bigSep_univ_sum]; rfl
omit [FloatOps F] in
theorem pushes0_eq : (pushes0 c : sProp 𝕄) = iprop((bigSep Finset.univ fun x : Fin 3 × Fin 4 => semVal (sendCell c x.1 x.2) 0)
    ∗ bigSep Finset.univ fun x : Fin 3 × Fin 4 => semVal (recvCell c x.1 x.2) 0) := by
  unfold pushes0; rw [bigSep_univ_sum]; rfl
omit [FloatOps F] in
theorem poss_eq : (poss c : sProp 𝕄) = iprop(atPos ER (barCell c) 0 ∅ 0
    ∗ (bigSep Finset.univ fun x : Fin 3 × Fin 4 => atPos ER (sendCell c x.1 x.2) 0 ∅ 0)
    ∗ bigSep Finset.univ fun x : Fin 3 × Fin 4 => atPos ER (recvCell c x.1 x.2) 0 ∅ 0) := by
  unfold poss; rw [bigSep_univ_sum, bigSep_univ_sum, univ_unit]; rfl

theorem pre_intro :
    iprop(arrs0 m c ∗ scr c ∗ payToks c ∗ poss c ∗ locals0 c ∗ creds c ∗ OB c Finset.univ) ⊢ runPre m c := by
  rw [runPre_eq, locals0_eq, poss_eq]
  unfold arrs0 scr payToks creds xfree wfree greeting barTok pushTok recvTok
  simp only [bigSep_sep']
  iintro ⟨⟨Hx, Hw, Hy⟩, ⟨Hxf, Hxb, Hwf, Hwb, Hsd, Hrv, Ho⟩, ⟨Tb, Ts, Tr⟩, ⟨Pb, Ps, Pr⟩, ⟨Zx, Zw, Zo⟩, ⟨Cb, Cr⟩, HO⟩
  ihave Hx := (cut_x m c) $$ Hx
  ihave Hw := (cut_w m c) $$ Hw
  ihave Hy := (cut_y c) $$ Hy
  ihave Hxf := (cut_xf c) $$ Hxf
  ihave Hxb := (cut_xb c) $$ Hxb
  ihave Hwf := (cut_wf c) $$ Hwf
  ihave Hwb := (cut_wb c) $$ Hwb
  ihave Hsd := (cut_sd c) $$ Hsd
  ihave Hrv := (cut_rv c) $$ Hrv
  ihave Ho := (cut_o c) $$ Ho
  icases Ho with ⟨Ho, Ho3⟩
  isplitl [Hx]; · iexact Hx
  isplitl [Hw]; · iexact Hw
  isplitl [Hxf Zx]; · isplitl [Hxf] <;> iassumption
  isplitl [Hwf Zw]; · isplitl [Hwf] <;> iassumption
  isplitl [Hxb]; · iexact Hxb
  isplitl [Hwb]; · iexact Hwb
  isplitl [Hrv Tb]
  · isplitl [Hrv]
    · ihave Hrv := (BIBase.Entails.of_eq (bigSep_univ_prod fun t : Fin 3 × Fin 4 => land c t.1 t.2)) $$ Hrv
      iexact Hrv
    · iexact Tb
  isplitl [Pb Cb]; · isplitl [Pb] <;> iassumption
  isplitl [HO]; · iexact HO
  isplitl [Hsd Ts Tr]
  · isplitl [Hsd]; · iexact Hsd
    isplitl [Ts] <;> iassumption
  isplitl [Ps]; · iexact Ps
  isplitl [Pr Cr Ho]
  · isplitl [Pr Cr]
    · isplitl [Pr] <;> iassumption
    · iexact Ho
  isplitl [Ho3]; · iexact Ho3
  isplitl [Hy]; · iexact Hy
  iexact Zo

/-! ## After the body -/

theorem post_elim :
    runPost m c ⊢ iprop(arrs1 m c ∗ semVal (barCell c) 0 ∗ (locals0 c ∗ pushes0 c) ∗ scr c ∗ OW c 12) := by
  rw [runPost_eq, locals0_eq, pushes0_eq]
  unfold arrs1 scr xfree wfree
  simp only [bigSep_sep']
  iintro ⟨Hx, Hw, ⟨Hxf, Zx⟩, ⟨Hwf, Zw⟩, Hxb, Hwb, Zb, HO, ⟨Hsd, Zs⟩, ⟨Hrv, Zr⟩, Hy, Ho, Zo⟩
  ihave Hx := (glue_x m c) $$ Hx
  ihave Hw := (glue_w m c) $$ Hw
  ihave Hy := (glue_y m c) $$ Hy
  ihave Hxf := (glue_xf c) $$ Hxf
  ihave Hxb := (glue_xb c) $$ Hxb
  ihave Hwf := (glue_wf c) $$ Hwf
  ihave Hwb := (glue_wb c) $$ Hwb
  ihave Hsd := (glue_sd c) $$ Hsd
  ihave Hrv := (glue_rv c) $$ Hrv
  ihave Ho := (glue_o c) $$ Ho
  isplitl [Hx Hw Hy]
  · isplitl [Hx]; · iexact Hx
    isplitl [Hw] <;> iassumption
  isplitl [Zb]; · iexact Zb
  isplitl [Zx Zw Zo Zs Zr]
  · isplitl [Zx Zw Zo]
    · isplitl [Zx]; · iexact Zx
      isplitl [Zw] <;> iassumption
    · isplitl [Zs] <;> iassumption
  isplitr [HO]
  · isplitl [Hxf]; · iexact Hxf
    isplitl [Hxb]; · iexact Hxb
    isplitl [Hwf]; · iexact Hwf
    isplitl [Hwb]; · iexact Hwb
    isplitl [Hsd]; · iexact Hsd
    isplitl [Hrv] <;> iassumption
  iexact HO

end Cert.KernelIdeal.Run

end
-- ==== Proof.Launch.lean ====
/-
# The run

The body of every device under the launch: every run ends, with the arguments as they were, the result at the computed
contents and every counter at zero.
-/
module

public import proofs.«01_k».proof.Proof.Whole
public import Idealize.ShloMosaic.Lib.Quiescent
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The proof data -/

/-- What a device starts from: its share of the ghost state, its credits, and its arrays, -/
def start : sProp 𝕄 :=
  iprop((∃ K, Ctx m K) ∗ payToks c ∗ poss c ∗ locals0 c ∗ creds c ∗ arrs0 m c)
def Φ₀ : sProp 𝕄 := iprop(start m c ∗ scr c)
/-- and what it ends with. -/
def Φ₁ : sProp 𝕄 := iprop(arrs1 m c ∗ semVal (barCell c) 0 ∗ (locals0 c ∗ pushes0 c) ∗ scr c)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem share_eq (w : Fin cfg0.W) : (dats m 0 c).share w = fullShare := w.elim0

theorem none_W (Ψ : Fin cfg0.W → sProp 𝕄) : bigSep Finset.univ Ψ = iprop(emp) := by
  rw [show (Finset.univ : Finset (Fin cfg0.W)) = ∅ from rfl, BI.bigSep_empty]; rfl

/-! ## The body's obligation -/

theorem enter : iprop((∃ K, Ctx m K) ∗ (payToks c ∗ poss c ∗ locals0 c ∗ creds c ∗ arrs0 m c) ∗ scr c ∗ OB c Finset.univ)
    ⊢ iprop(∃ K, Ctx m K ∗ runPre m c) := by
  iintro ⟨⟨%K, HC⟩, ⟨H1, H2, H3, H4, H5⟩, H6, H7⟩
  iexists K
  isplitl [HC]; · iexact HC
  iapply (pre_intro m c)
  isplitl [H5]; · iexact H5
  isplitl [H6]; · iexact H6
  isplitl [H1]; · iexact H1
  isplitl [H2]; · iexact H2
  isplitl [H3]; · iexact H3
  isplitl [H4]; · iexact H4
  iexact H7

theorem ob_intro : iprop(∃ Ws, owes (c : Thread nD τ) (O₀ c) Ws) ⊢ (OB c Finset.univ : sProp 𝕄) := Entails.rfl

theorem ow_elim : (OW c 12 : sProp 𝕄) ⊢ iprop(∃ Ws, owes (c : Thread nD τ) 0 Ws) := by
  unfold OW; rw [owe_end]

/-- The body of one device. -/
theorem body_t (t : Fin cfg0.N) :
    iprop((∃ K, Ctx m K) ∗ (payToks c ∗ poss c ∗ locals0 c ∗ creds c ∗ arrs0 m c) ∗ scr c ∗ OB c Finset.univ)
      ⊢ W c (bodyAt0 (F := F) t) fun _ => runPost m c := by
  rw [body_run]
  unfold W
  simp only [Prog.lift, Prog.bind_op, Prog.bind_ret, wp_deviceId]
  refine (enter m c).trans ?_
  iintro ⟨%K, H⟩
  iapply (show iprop(Ctx m K ∗ runPre m c) ⊢ _ from run_t (m := m) (K := K) (c := c))
  iexact H

set_option maxRecDepth 20000 in
theorem body_obligation (c : Dev nD) : Pipeline.BodyObligation (dats m 0 c) defs₀ 𝒱₀ () Set.univ := fun t => by
  rw [fin_N0 t, none_W, none_W]
  rw [show (dats m 0 c).Φ t0_0.castSucc = Φ₀ m c from rfl, show (dats m 0 c).Φ t0_0.succ = Φ₁ m c from rfl]
  unfold Pipeline.Dat.owesAt Pipeline.owesWithin
  rw [show (dats m 0 c).owed t0_0.castSucc = O₀ c from rfl, show (dats m 0 c).owed t0_0.succ = 0 from rfl]
  change _ ⊢ W c (bodyAt0 (F := F) t0_0) _
  refine BIBase.Entails.trans (Q := W c (bodyAt0 (F := F) t0_0) fun _ => runPost m c) ?_ ?_
  · refine BIBase.Entails.trans ?_ (body_t m c t0_0)
    unfold Φ₀ start
    iintro ⟨⟨⟨HC, H⟩, Hs⟩, ⟨%Ws, -, HW⟩, -⟩
    isplitl [HC]; · iexact HC
    isplitl [H]; · iexact H
    isplitl [Hs]; · iexact Hs
    iapply (ob_intro c)
    iexists Ws; iexact HW
  · generalize bodyAt0 (F := F) t0_0 = p
    refine wp_mono _ _ _ fun _ => ?_
    refine (post_elim m c).trans ?_
    unfold Φ₁
    iintro ⟨H1, H2, H3, H4, HW⟩
    ihave HW' := (ow_elim c) $$ HW
    icases HW' with ⟨%Ws, HW⟩
    isplitl [H1 H2 H3 H4]
    · isplitl [H1]; · iexact H1
      isplitl [H2]; · iexact H2
      isplitl [H3]; · iexact H3
      iexact H4
    isplitl [HW]
    · iexists Ws; isplitr; · ipureintro; exact fun _ _ => Or.inl trivial
      iexact HW
    iempintro

/-! ## Entering and leaving the launch -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' records start Ctx arrs0 xv wv some_
  simp only [owns_whole]
  iintro ⟨⟨Hx, Hw, Hy⟩, Hlev, Hcr, -, ⟨%K, HI, HR⟩, Ht, Hp, Hl⟩
  ihave Hc := (creds_intro (F := F) c) $$ Hcr
  imodintro
  isplitl
  · isplitl [HI HR Hlev]
    · iexists K
      isplitl [HI]; · iexact HI
      isplitl [HR]; · iexact HR
      iexact Hlev
    isplitl [Ht]; · iexact Ht
    isplitl [Hp]; · iexact Hp
    isplitl [Hl]; · iexact Hl
    isplitl [Hc]; · iexact Hc
    isplitl [Hx]; · iexact Hx
    isplitl [Hw]; · iexact Hw
    iexists _; iexact Hy
  · iempintro

theorem scr_eq : (scr c : sProp 𝕄) = Pipeline.scopedRest cfg0.spec c := by
  rw [scopedRest0_eq]; unfold scr some_; simp only [owns_whole]; rfl

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scr_eq]
  unfold Φ₀
  iintro ⟨Hs, -, Hr⟩
  isplitl [Hs]; · iexact Hs
  iexact Hr

theorem phi1_exit :
    (dats m 0 c).Φ (Fin.last cfg0.N)
      ⊢ iprop((arrs1 m c ∗ unscopedSems0 c) ∗ Pipeline.ownSems0 osem c ∗ Pipeline.scopedRest cfg0.spec c) := by
  rw [show (dats m 0 c).Φ (Fin.last cfg0.N) = Φ₁ m c from rfl, ← scr_eq, ownSems0_eq, unscopedSems0_eq]
  unfold Φ₁
  iintro ⟨Ha, Hb, Hl, Hs⟩
  isplitl [Ha Hb]
  · isplitl [Ha]; · iexact Ha
    iexact Hb
  isplitl [Hl]; · iexact Hl
  iexact Hs

theorem waits : (levAts L lv : sProp 𝕄) ⊢ Pipeline.cellsWaits cfgs (dats m) () 0 c :=
  Pipeline.cellsWaits_intro cfgs (dats m) () 0 c fun w s t => w.elim0

/-- What is read off a device's memory at the end. -/
def Arr (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = yVal m c

theorem arrs_read (s : Phys nD τ sig (Elt F)) : iprop(arrs1 m c ∗ SI s) ⊢ iprop(⌜Arr m c s.mem⌝ ∗ SI s : sProp 𝕄) := by
  unfold arrs1 xv wv
  simp only [owns_whole]
  iintro ⟨⟨H0, H1, H2⟩, HSI⟩
  icombine HSI H0 gives %h0
  icombine HSI H1 gives %h1
  icombine HSI H2 gives %h2
  isplitr
  · ipureintro; exact ⟨Buf.eq_of_forall_mem_univ h0, Buf.eq_of_forall_mem_univ h1, Buf.eq_of_forall_mem_univ h2⟩
  iexact HSI

/-- The same, with the counters the launch keeps. -/
def QY (s : MemSt nD τ sig (Elt F)) : Prop :=
  Arr m c s ∧ ∀ sm : SemLoc sig, sm.isScoped .tc = false → s.sem ((c.tc : Thread nD τ), sm) = 0

theorem all_read (s : Phys nD τ sig (Elt F)) :
    iprop((arrs1 m c ∗ unscopedSems0 c) ∗ emp ∗ SI s) ⊢ |={Set.univ}=> iprop(⌜QY m c s.mem⌝ ∗ SI s : sProp 𝕄) := by
  iintro ⟨⟨Ha, Hu⟩, -, HSI⟩
  ihave Hr := (arrs_read m c s) $$ [Ha HSI]
  · isplitl [Ha] <;> iassumption
  icases Hr with ⟨%ha, HSI⟩
  imod (Pipeline.unscopedSems0_read (X := unscopedSems0 c) (c := c) fupd_intro s) $$ [Hu HSI] with ⟨%hu, HSI⟩
  · isplitl [Hu] <;> iassumption
  imodintro
  isplitr; · ipureintro; exact ⟨ha, hu⟩
  iexact HSI

/-! ## The run -/

set_option maxRecDepth 8000 in
/-- For any float values, from any memory with zero counters: every weakly fair execution of the program ends, and at
    the end every device's arguments are as they were, its result is at the computed contents and every counter is zero. -/
theorem run_main : θ_run defs (onTc (τ := τ) (main (F := F))) ⟨m, fun _ => 0, ρ⟩ (fun r => (∀ c, Arr m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HR, -⟩
      imod (show BI.own (((Emb.inl : Emb UB (UB × Counters)).trans embR) (initOf allCells allToks)) ⊢ (|==> bigSep Finset.univ (G m) : sProp 𝕄) from fund_cells m) $$ HR with HG
      imodintro
      isplitl [HP] <;> iassumption)
    (hglob := glob m)
    (hA := fun _ w => w.elim0) (hpf := fun _ k => k.elim0)
    (X := start m) (Y := fun c => iprop(arrs1 m c ∗ unscopedSems0 c)) (Z := fun _ => iprop(emp))
    (hX := start_intro m ρ) (hin := phi0_intro m) (hout := phi1_exit m)
    (QY := QY m) (hY := all_read m)
    (hQ := fun _ h hs => ⟨fun c => (h c).2.2.1, sem_eq_zero hs fun c => (h c).2.2.2⟩)

end Cert.KernelIdeal.Run

end
-- ==== Proof.Product.lean ====
/-
# What one block computes

Over the extended reals a change of format changes nothing, so the casts keep their operand's entries and a chunk is a
piece of the matrix product.
-/
module

public import proofs.«01_k».proof.Proof.Rects
public import Idealize.ShloMosaic.Lib.MatmulPlain
public import Idealize.ShloMosaic.Lib.ValueLayout

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open scoped BigOperators

/-! ## The casts and the products at an index -/

theorem castX_at (v : FVec Ideal S1x256x4096 .f32) (i : Fin 256) (k : Fin 4096) :
    (castX (F := Ideal) v (ix2 (n0 := 256) (n1 := 4096) i k) : EReal) = v (ix3 (n0 := 1) (n1 := 256) (n2 := 4096) 0 i k) := by
  show shapeCast S256x4096 (truncf .bf16 (shapeCast S256x4096 v shapeCasts_S1x256x4096_S256x4096) bitsLt_bf16_f32) shapeCasts_S256x4096_S256x4096 _ = _
  rw [shapeCast_self]
  exact shapeCast_1ab_ab_apply v _ i k

theorem castW_at (v : FVec Ideal S1x4096x512 .f32) (k : Fin 4096) (j : Fin 512) :
    (castW (F := Ideal) v (ix3 (n0 := 1) (n1 := 4096) (n2 := 512) 0 k j) : EReal) = v (ix3 (n0 := 1) (n1 := 4096) (n2 := 512) 0 k j) := by
  show shapeCast S1x4096x512 (truncf .bf16 (shapeCast S4096x512 v shapeCasts_S1x4096x512_S4096x512) bitsLt_bf16_f32) shapeCasts_S4096x512_S1x4096x512 _ = _
  refine (shapeCast_ab_1ab_apply _ _ 0 k j).trans ?_
  exact shapeCast_1ab_ab_apply v _ k j

theorem wide_at (v : FVec Ideal S1x256x512 .bf16) (i : Fin 256) (j : Fin 512) :
    (wide (F := Ideal) v (ix3 (n0 := 1) (n1 := 256) (n2 := 512) 0 i j) : EReal) = v (ix3 (n0 := 1) (n1 := 256) (n2 := 512) 0 i j) := by
  show shapeCast S1x256x512 (extf .f32 (shapeCast S256x512 v shapeCasts_S1x256x512_S256x512) bitsLt_bf16_f32) shapeCasts_S256x512_S1x256x512 _ = _
  refine (shapeCast_ab_1ab_apply _ _ 0 i j).trans ?_
  exact shapeCast_1ab_ab_apply v _ i j

theorem prodF_at (a : FVec Ideal S256x4096 .bf16) (b : FVec Ideal S1x4096x512 .bf16) (i : Fin 256) (j : Fin 512) :
    (prodF (F := Ideal) a b (ix3 (n0 := 1) (n1 := 256) (n2 := 512) 0 i j) : EReal)
      = ∑ k : Fin 4096, (a (ix2 (n0 := 256) (n1 := 4096) i k) * b (ix3 (n0 := 1) (n1 := 4096) (n2 := 512) 0 k j) : EReal) := by
  show shapeCast S1x256x512 (matmul dot_S256x4096_S4096x512_S256x512_1_0_0_1_n_n none a (shapeCast S4096x512 b shapeCasts_S1x4096x512_S4096x512)
    (constant S256x512 .f32 0x00000000#32)) shapeCasts_S256x512_S1x256x512 _ = _
  refine (shapeCast_ab_1ab_apply _ _ 0 i j).trans ?_
  refine (Ideal.matmul_plain_apply (M := 256) (K := 4096) (N := 512) none a _ _ i j).trans ?_
  rw [show (constant S256x512 .f32 0x00000000#32 : FVec Ideal S256x512 .f32) (ix2 i j) = 0 from Ideal.ofBits_zero_f32, zero_add]
  exact Finset.sum_congr rfl fun k _ => congrArg _ (shapeCast_1ab_ab_apply b _ k j)

theorem prodB_at (a : FVec Ideal S256x4096 .bf16) (b : FVec Ideal S1x4096x512 .bf16) (i : Fin 256) (j : Fin 512) :
    (prodB (F := Ideal) a b (ix3 (n0 := 1) (n1 := 256) (n2 := 512) 0 i j) : EReal)
      = ∑ k : Fin 4096, (a (ix2 (n0 := 256) (n1 := 4096) i k) * b (ix3 (n0 := 1) (n1 := 4096) (n2 := 512) 0 k j) : EReal) :=
  prodF_at a b i j

/-! ## The rows and columns at an index -/

variable (m : (ℓ : Loc nD τ sig) → Buf (Elt Ideal) ℓ) (c : Dev nD)

theorem unsq_at {a b : ℕ} {V : Type} (h : (⟨3, ![1, a, b]⟩ : Shape).Squeezes ⟨2, ![a, b]⟩) (Y : (⟨2, ![a, b]⟩ : Shape).Idx → V)
    (i : Fin a) (j : Fin b) : unsq h Y (ix3 0 i j) = Y (ix2 i j) := by
  unfold unsq
  exact congrArg Y ((Equiv.symm_apply_eq _).mpr (reshapeEquiv_ix2_1ab h.numel_eq i j).symm)

def xAt (r : Fin 4) (i : Fin 256) (k : Fin 4096) : Elt Ideal .f32 :=
  xv m c (ix2 (n0 := 1024) (n1 := 4096) ⟨256 * r.val + i.val, by omega⟩ k)
def wAt (d : Fin 4) (k : Fin 4096) (j : Fin 512) : Elt Ideal .f32 :=
  wv m c (ix2 (n0 := 4096) (n1 := 2048) k ⟨512 * d.val + j.val, by omega⟩)

theorem xbf_at (r : Fin 4) (i : Fin 256) (k : Fin 4096) : xbf m c r (ix2 (n0 := 256) (n1 := 4096) i k) = xAt m c r i k := by
  unfold xbf
  refine (castX_at _ i k).trans ((unsq_at (a := 256) (b := 4096) _ _ i k).trans ?_)
  unfold xrow xAt
  refine congrArg _ (funext fun a => Fin.ext ?_)
  match a with
  | ⟨0, _⟩ => simp [ix2]
  | ⟨1, _⟩ => simp [ix2]

theorem wbf_at (s : Fin 4) (k : Fin 4096) (j : Fin 512) :
    wbf m c s (ix3 (n0 := 1) (n1 := 4096) (n2 := 512) 0 k j) = wAt m c (dst s c) k j := by
  unfold wbf
  refine (castW_at _ k j).trans ((unsq_at (a := 4096) (b := 512) _ _ k j).trans ?_)
  unfold wcol wAt
  refine congrArg _ (funext fun a => Fin.ext ?_)
  match a with
  | ⟨0, _⟩ => simp [ix2]
  | ⟨1, _⟩ => simp [ix2]

/-! ## A chunk -/

/-- Entry `(i, j)` of chunk `r` of the product of a device's rows with the columns of device `d`. -/
def prodAt (d : Fin 4) (r : Fin 4) (i : Fin 256) (j : Fin 512) : Elt Ideal .f32 :=
  ∑ k : Fin 4096, (xAt m c r i k * wAt m c d k j : EReal)

theorem chunk_at (s r : Fin 4) (i : Fin 256) (j : Fin 512) :
    chunk m c s r (ix3 (n0 := 1) (n1 := 256) (n2 := 512) 0 i j) = prodAt m c (dst s c) r i j := by
  unfold chunk
  refine (prodB_at _ _ i j).trans (Finset.sum_congr rfl fun k _ => ?_)
  rw [xbf_at, wbf_at]
theorem keep_at (s r : Fin 4) (i : Fin 256) (j : Fin 512) :
    keep m c s r (ix3 (n0 := 1) (n1 := 256) (n2 := 512) 0 i j) = prodAt m c (dst s c) r i j := by
  unfold keep
  refine (prodF_at _ _ i j).trans (Finset.sum_congr rfl fun k _ => ?_)
  rw [xbf_at, wbf_at]

/-- Chunk `r` of slot `s` of the stage: the rows of the device that step `s` pairs with `c`, and the columns of `c`. -/
theorem part_at (s r : Fin 4) (i : Fin 256) (j : Fin 512) :
    part m c s r (ix3 (n0 := 1) (n1 := 256) (n2 := 512) 0 i j) = prodAt m (dst s c) c r i j := by
  unfold part
  split
  · next h => subst h; rw [keep_at, dst_three]
  · rw [wide_at, chunk_at, dst_dst]

end Cert.KernelIdeal.Run

end
-- ==== Proof.Result.lean ====
/-
# What the result holds

Entry `(i, j)` of a device's result is row `i` of the whole of `x`, which device `i / 1024` holds, times column `j` of
the device's own columns of `w`.
-/
module

public import proofs.«01_k».proof.Proof.Product
public import proofs.«01_k».proof.Proof.Whole

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

open scoped BigOperators

variable (m : (ℓ : Loc nD τ sig) → Buf (Elt Ideal) ℓ) (c : Dev nD)

/-- The device that holds row `i` of the whole of `x`. -/
def holder (i : Fin 4096) : Dev nD := (⟨i.val / 1024, by omega⟩ : Fin 4)
/-- Where it holds it. -/
def heldAt (i : Fin 4096) : Fin 1024 := ⟨i.val % 1024, Nat.mod_lt _ (by decide)⟩
/-- Column `j` of the columns of a device. -/
def column (c : Fin 4) (j : Fin 512) : Fin 2048 := ⟨512 * c.val + j.val, by omega⟩

theorem stage_at (s : Fin 4) (i : Fin 1024) (j : Fin 512) :
    (stageVal m c (ix3 (n0 := 4) (n1 := 1024) (n2 := 512) s i j) : EReal)
      = ∑ k : Fin 4096, (xv m (dst s c) (ix2 (n0 := 1024) (n1 := 4096) i k)
          * wv m (dst s c) (ix2 (n0 := 4096) (n1 := 2048) k (column c j)) : EReal) := by
  have hi : inChunk (ix3 (n0 := 4) (n1 := 1024) (n2 := 512) s i j)
      = ix3 (n0 := 1) (n1 := 256) (n2 := 512) 0 ⟨i.val % 256, Nat.mod_lt _ (by decide)⟩ j := by
    funext a
    match a with
    | ⟨0, _⟩ => rfl
    | ⟨1, _⟩ => rfl
    | ⟨2, _⟩ => rfl
  unfold stageVal
  rw [hi]
  refine (part_at m c s ⟨i.val / 256, by omega⟩ _ j).trans ?_
  unfold prodAt xAt wAt
  have hr : (⟨256 * (i.val / 256) + i.val % 256, by omega⟩ : Fin 1024) = i := Fin.ext (Nat.div_add_mod _ _)
  refine Finset.sum_congr rfl fun k _ => ?_
  dsimp only
  rw [hr]
  rfl

theorem yVal_at (i : Fin 4096) (j : Fin 512) :
    (yVal m c (ix2 (n0 := 4096) (n1 := 512) i j) : EReal)
      = ∑ k : Fin 4096, (xv m (holder i) (ix2 (n0 := 1024) (n1 := 4096) (heldAt i) k)
          * wv m (holder i) (ix2 (n0 := 4096) (n1 := 2048) k (column c j)) : EReal) := by
  have hs : ySlot c (ix2 (n0 := 4096) (n1 := 512) i j)
      = ix3 (n0 := 4) (n1 := 1024) (n2 := 512) ((stepEquiv c).symm (holder i)) (heldAt i) j := by
    funext a
    match a with
    | ⟨0, _⟩ => rfl
    | ⟨1, _⟩ => rfl
    | ⟨2, _⟩ => rfl
  have hd : dst ((stepEquiv c).symm (holder i)) c = holder i := (stepEquiv c).apply_symm_apply (holder i)
  unfold yVal
  rw [hs, stage_at, hd]

end Cert.KernelIdeal.Run

end
-- ==== Proof.Equation.lean ====
/-
# The equation

Over the extended reals, what a device's result holds is its block of columns of the product of the whole arrays.
-/
module

public import proofs.«01_k».proof.Proof.Result
public import proofs.«01_k».proof.Proof.Gen.ReferenceIdeal
public import Idealize.ShloMosaic.Lib.Layout
public import Idealize.ShloMosaic.PureOps.Ideal.Laws
public import Idealize.ShloMosaic.Lib.StackMember

@[expose] public section

noncomputable section

namespace Cert.Equation

open Cert.KernelIdeal.Run
open Idealize.ShloMosaic Idealize.ShloMosaic.TcCoe Idealize.ShloMosaic.ValueIdx
open scoped BigOperators

/-! ## The reference's product -/

abbrev Xs : Shape := ⟨2, ![4096, 4096]⟩
abbrev Ws : Shape := ⟨2, ![4096, 2048]⟩

/-- The reference's product of the whole arrays. -/
def prod (X : FVec Ideal Xs .f32) (Y : FVec Ideal Ws .f32) : FVec Ideal Ws .f32 :=
  Host.dotGeneral Cert.ReferenceIdeal.dot_S4096x4096_S4096x2048_S4096x2048_1_0_0_1_n_n none X Y

theorem prod_at (X : FVec Ideal Xs .f32) (Y : FVec Ideal Ws .f32) (i : Fin 4096) (j : Fin 2048) :
    (prod X Y (ix2 (n0 := 4096) (n1 := 2048) i j) : EReal)
      = ∑ k : Fin 4096, (X (ix2 (n0 := 4096) (n1 := 4096) i k) * Y (ix2 (n0 := 4096) (n1 := 2048) k j) : EReal) :=
  StackMember.dotGeneral_plain_apply (m := 4096) (k := 4096) (n := 2048) none X Y i j

/-! ## The equation -/

theorem tilesX : Layout.Tiles ⟨2, ![1024, 4096]⟩ Xs 0 4 := by decide
theorem tilesY : Layout.Tiles ⟨2, ![4096, 512]⟩ Ws 1 4 := by decide

variable (m : (ℓ : Loc Cert.KernelIdeal.nD Cert.KernelIdeal.τ Cert.KernelIdeal.sig) → Buf (Elt Ideal) ℓ)
  (X : FVec Ideal Xs .f32) (Y : FVec Ideal Ws .f32)
  (hx : ∀ c : Dev Cert.KernelIdeal.nD, xv m c = Layout.block ⟨2, ![1024, 4096]⟩ Xs 0 4 c X tilesX)
  (hw : ∀ c : Dev Cert.KernelIdeal.nD, wv m c = Y)

include hx in
/-- A row of the whole of `x`, where its holder has it. -/
theorem row_at (i k : Fin 4096) :
    xv m (holder i) (ix2 (n0 := 1024) (n1 := 4096) (heldAt i) k) = X (ix2 (n0 := 4096) (n1 := 4096) i k) := by
  rw [hx, Layout.block_apply]
  refine congrArg X (funext fun a => Fin.ext ?_)
  rw [Layout.Tiles.idx_val]
  match a with
  | ⟨0, _⟩ =>
    show (i.val / 1024) * 1024 + i.val % 1024 = i.val
    exact Nat.div_add_mod' _ _
  | ⟨1, _⟩ => rfl

include hx hw in
/-- A device's result is its columns of the product. -/
theorem result (c : Dev Cert.KernelIdeal.nD) :
    yVal m c = Layout.block ⟨2, ![4096, 512]⟩ Ws 1 4 c (prod X Y) tilesY := by
  funext k
  obtain ⟨i, j, rfl⟩ : ∃ (i : Fin 4096) (j : Fin 512), k = ix2 i j := ⟨k 0, k 1, eq_ix2 k⟩
  rw [Layout.block_apply]
  have hk : tilesY.idx c (ix2 i j)
      = ix2 (n0 := 4096) (n1 := 2048) i (column c j) := by
    refine funext fun a => Fin.ext ?_
    rw [Layout.Tiles.idx_val]
    match a with
    | ⟨0, _⟩ => rfl
    | ⟨1, _⟩ =>
      show c.val * 512 + j.val = 512 * c.val + j.val
      rw [Nat.mul_comm]
  rw [hk]
  refine (yVal_at m c i j).trans (Eq.trans ?_ (prod_at X Y i (column c j)).symm)
  refine Finset.sum_congr rfl fun q _ => ?_
  rw [row_at m X hx, hw]

end Cert.Equation

end
-- ==== Proof.lean ====
/-
# The claims

The run of the kernel gives its two frames, the reference's own run gives the third, and the equation of their results
gives the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => ⟨(h.1 c).1, (h.1 c).2.1⟩, h.2⟩)
    (Cert.KernelIdeal.Run.run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Run.run_main (F := Ideal) m ρ)

theorem frame_reference : Cert.quiescent_ReferenceIdeal := fun m ρ _ =>
  (θ_run Cert.ReferenceIdeal.defs _ _).mono (fun r h => ⟨fun c => ⟨(h c).2.1, (h c).2.2⟩, sem_eq_zero_of_no_sems rfl r.2⟩)
    (Cert.ReferenceIdeal.Value.run (F := Ideal) m ρ)

theorem value : Cert.algebraic_KernelIdeal_ReferenceIdeal := fun m ρ m' ρ' _ h =>
  ⟨Cert.Equation.prod _ _,
    (θ_run Cert.KernelIdeal.defs _ _).mono
      (fun _ hr c => ⟨(hr.1 c).2.2.trans (Cert.Equation.result m _ _ (fun d => (h d).1) (fun d => (h d).2) c),
        (hr.1 c).1, (hr.1 c).2.1⟩)
      (Cert.KernelIdeal.Run.run_main (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
